-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2x512 : Shape := ⟨2, ![2, 512]⟩
abbrev S4x2x512 : Shape := ⟨3, ![4, 2, 512]⟩
abbrev S2x3 : Shape := ⟨2, ![2, 3]⟩
abbrev S_ : Shape := ⟨0, ![]⟩
abbrev S512x256 : Shape := ⟨2, ![512, 256]⟩
abbrev S256 : Shape := ⟨1, ![256]⟩
abbrev S1x256 : Shape := ⟨2, ![1, 256]⟩
abbrev S2x256 : Shape := ⟨2, ![2, 256]⟩
abbrev S1x2x256 : Shape := ⟨3, ![1, 2, 256]⟩
abbrev S1x1 : Shape := ⟨2, ![1, 1]⟩
abbrev S1x1x256 : Shape := ⟨3, ![1, 1, 256]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S2x512, .f32⟩
  | .local _ .vmem, ⟨0, _⟩ => ⟨S512x512, .f32⟩
  | .local _ .vmem, ⟨1, _⟩ => ⟨S2x512, .f32⟩
  | .local _ .vmem, ⟨2, _⟩ => ⟨S4x2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v62 : BitVec 32 := Scalar.addi v2 c1_i32_33
  let c4_i32_34 : BitVec 32 := 4#32
  let c0_i32_35 : BitVec 32 := 0#32
  let v63 : BitVec 1 := Scalar.cmpi .eq c4_i32_34 c0_i32_35
  let c1_i32_36 : BitVec 32 := 1#32
  let v64 : BitVec 32 := Scalar.select v63 c1_i32_36 c4_i32_34
  let v65 : BitVec 32 := Scalar.remsi v62 v64
  let c0_i32_38 : BitVec 32 := 0#32
  let v67 : BitVec 1 := Scalar.cmpi .slt v65 c0_i32_38
  let c0_i32_39 : BitVec 32 := 0#32
  let v68 : BitVec 1 := Scalar.cmpi .slt v64 c0_i32_39
  let v69 : BitVec 1 := Scalar.xori v67 v68
  let c0_i32_37 : BitVec 32 := 0#32
  let v66 : BitVec 1 := Scalar.cmpi .ne v65 c0_i32_37
  let v70 : BitVec 1 := Scalar.andi v69 v66
  let v71 : BitVec 32 := Scalar.addi v65 v64
  let v72 : BitVec 32 := Scalar.select v70 v71 v65
  let c1_i32_46 : BitVec 32 := 1#32
  let v73 : BitVec 32 := Scalar.muli v72 c1_i32_46
  let v74 : BitVec 32 := Scalar.addi c0_i32_47 v73
  v74.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_52 : BitVec 32 := 2#32
  let v83 : BitVec 32 := Scalar.addi v2 c2_i32_52
  let c4_i32_53 : BitVec 32 := 4#32
  let c0_i32_54 : BitVec 32 := 0#32
  let v84 : BitVec 1 := Scalar.cmpi .eq c4_i32_53 c0_i32_54
  let c1_i32_55 : BitVec 32 := 1#32
  let v85 : BitVec 32 := Scalar.select v84 c1_i32_55 c4_i32_53
  let v86 : BitVec 32 := Scalar.remsi v83 v85
  let c0_i32_57 : BitVec 32 := 0#32
  let v88 : BitVec 1 := Scalar.cmpi .slt v86 c0_i32_57
  let c0_i32_58 : BitVec 32 := 0#32
  let v89 : BitVec 1 := Scalar.cmpi .slt v85 c0_i32_58
  let v90 : BitVec 1 := Scalar.xori v88 v89
  let c0_i32_56 : BitVec 32 := 0#32
  let v87 : BitVec 1 := Scalar.cmpi .ne v86 c0_i32_56
  let v91 : BitVec 1 := Scalar.andi v90 v87
  let v92 : BitVec 32 := Scalar.addi v86 v85
  let v93 : BitVec 32 := Scalar.select v91 v92 v86
  let c1_i32_65 : BitVec 32 := 1#32
  let v94 : BitVec 32 := Scalar.muli v93 c1_i32_65
  let v95 : BitVec 32 := Scalar.addi c0_i32_66 v94
  v95.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v104 : BitVec 32 := Scalar.addi v2 c3_i32_71
  let c4_i32_72 : BitVec 32 := 4#32
  let c0_i32_73 : BitVec 32 := 0#32
  let v105 : BitVec 1 := Scalar.cmpi .eq c4_i32_72 c0_i32_73
  let c1_i32_74 : BitVec 32 := 1#32
  let v106 : BitVec 32 := Scalar.select v105 c1_i32_74 c4_i32_72
  let v107 : BitVec 32 := Scalar.remsi v104 v106
  let c0_i32_76 : BitVec 32 := 0#32
  let v109 : BitVec 1 := Scalar.cmpi .slt v107 c0_i32_76
  let c0_i32_77 : BitVec 32 := 0#32
  let v110 : BitVec 1 := Scalar.cmpi .slt v106 c0_i32_77
  let v111 : BitVec 1 := Scalar.xori v109 v110
  let c0_i32_75 : BitVec 32 := 0#32
  let v108 : BitVec 1 := Scalar.cmpi .ne v107 c0_i32_75
  let v112 : BitVec 1 := Scalar.andi v111 v108
  let v113 : BitVec 32 := Scalar.addi v107 v106
  let v114 : BitVec 32 := Scalar.select v112 v113 v107
  let c1_i32_84 : BitVec 32 := 1#32
  let v115 : BitVec 32 := Scalar.muli v114 c1_i32_84
  let v116 : BitVec 32 := Scalar.addi c0_i32_85 v115
  v116.toNat
def k0_dev7 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_98 : BitVec 32 := 1#32
  let v143 : BitVec 32 := Scalar.addi v2 c1_i32_98
  let c4_i32_99 : BitVec 32 := 4#32
  let c0_i32_100 : BitVec 32 := 0#32
  let v144 : BitVec 1 := Scalar.cmpi .eq c4_i32_99 c0_i32_100
  let c1_i32_101 : BitVec 32 := 1#32
  let v145 : BitVec 32 := Scalar.select v144 c1_i32_101 c4_i32_99
  let v146 : BitVec 32 := Scalar.remsi v143 v145
  let c0_i32_103 : BitVec 32 := 0#32
  let v148 : BitVec 1 := Scalar.cmpi .slt v146 c0_i32_103
  let c0_i32_104 : BitVec 32 := 0#32
  let v149 : BitVec 1 := Scalar.cmpi .slt v145 c0_i32_104
  let v150 : BitVec 1 := Scalar.xori v148 v149
  let c0_i32_102 : BitVec 32 := 0#32
  let v147 : BitVec 1 := Scalar.cmpi .ne v146 c0_i32_102
  let v151 : BitVec 1 := Scalar.andi v150 v147
  let v152 : BitVec 32 := Scalar.addi v146 v145
  let v153 : BitVec 32 := Scalar.select v151 v152 v146
  let c1_i32_111 : BitVec 32 := 1#32
  let v154 : BitVec 32 := Scalar.muli v153 c1_i32_111
  let v155 : BitVec 32 := Scalar.addi c0_i32_112 v154
  v155.toNat
def k0_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_116 : BitVec 32 := 2#32
  let v164 : BitVec 32 := Scalar.addi v2 c2_i32_116
  let c4_i32_117 : BitVec 32 := 4#32
  let c0_i32_118 : BitVec 32 := 0#32
  let v165 : BitVec 1 := Scalar.cmpi .eq c4_i32_117 c0_i32_118
  let c1_i32_119 : BitVec 32 := 1#32
  let v166 : BitVec 32 := Scalar.select v165 c1_i32_119 c4_i32_117
  let v167 : BitVec 32 := Scalar.remsi v164 v166
  let c0_i32_121 : BitVec 32 := 0#32
  let v169 : BitVec 1 := Scalar.cmpi .slt v167 c0_i32_121
  let c0_i32_122 : BitVec 32 := 0#32
  let v170 : BitVec 1 := Scalar.cmpi .slt v166 c0_i32_122
  let v171 : BitVec 1 := Scalar.xori v169 v170
  let c0_i32_120 : BitVec 32 := 0#32
  let v168 : BitVec 1 := Scalar.cmpi .ne v167 c0_i32_120
  let v172 : BitVec 1 := Scalar.andi v171 v168
  let v173 : BitVec 32 := Scalar.addi v167 v166
  let v174 : BitVec 32 := Scalar.select v172 v173 v167
  let c1_i32_129 : BitVec 32 := 1#32
  let v175 : BitVec 32 := Scalar.muli v174 c1_i32_129
  let v176 : BitVec 32 := Scalar.addi c0_i32_130 v175
  v176.toNat
def k0_dev9 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_135 : BitVec 32 := 3#32
  let v185 : BitVec 32 := Scalar.addi v2 c3_i32_135
  let c4_i32_136 : BitVec 32 := 4#32
  let c0_i32_137 : BitVec 32 := 0#32
  let v186 : BitVec 1 := Scalar.cmpi .eq c4_i32_136 c0_i32_137
  let c1_i32_138 : BitVec 32 := 1#32
  let v187 : BitVec 32 := Scalar.select v186 c1_i32_138 c4_i32_136
  let v188 : BitVec 32 := Scalar.remsi v185 v187
  let c0_i32_140 : BitVec 32 := 0#32
  let v190 : BitVec 1 := Scalar.cmpi .slt v188 c0_i32_140
  let c0_i32_141 : BitVec 32 := 0#32
  let v191 : BitVec 1 := Scalar.cmpi .slt v187 c0_i32_141
  let v192 : BitVec 1 := Scalar.xori v190 v191
  let c0_i32_139 : BitVec 32 := 0#32
  let v189 : BitVec 1 := Scalar.cmpi .ne v188 c0_i32_139
  let v193 : BitVec 1 := Scalar.andi v192 v189
  let v194 : BitVec 32 := Scalar.addi v188 v187
  let v195 : BitVec 32 := Scalar.select v193 v194 v188
  let c1_i32_148 : BitVec 32 := 1#32
  let v196 : BitVec 32 := Scalar.muli v195 c1_i32_148
  let v197 : BitVec 32 := Scalar.addi c0_i32_149 v196
  v197.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Cells.lean ====
/-
# The devices, buffers and semaphores of the kernel

Four devices, each holding 512 rows of the input. A device writes the partial result of its own rows (for each of the
512 columns the largest value and the row it is at) into slot 0 of its communication buffer, one half of the columns at
a time, and copies that half into one slot of each of the three other devices. Slot `s` of device `c` (`s = 1, 2, 3`) is
written by device `c + s`. This module names the devices, the eight pieces of the buffer (four slots, two halves), the
semaphores, and proves that the eight pieces are disjoint and make up the whole buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.MemrefSat

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own rounds and the exchange's (three duty names) -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## The devices -/

set_option backward.proofsInPublic true in
/-- The device that writes slot `t + 1` of device `c`. -/
def writer (t : Fin 3) (c : Dev nD) : Dev nD := ⟨(c.val + (t.val + 1)) % 4, Nat.mod_lt _ (by decide)⟩
set_option backward.proofsInPublic true in
/-- The device whose slot `t + 1` device `c` writes. -/
def target (t : Fin 3) (c : Dev nD) : Dev nD := ⟨(c.val + (3 - t.val)) % 4, Nat.mod_lt _ (by decide)⟩

theorem target_writer (t : Fin 3) (c : Dev nD) : target t (writer t c) = c := by revert t c; decide
theorem writer_target (t : Fin 3) (c : Dev nD) : writer t (target t c) = c := by revert t c; decide

/-- Device to the device it reads slot `t + 1` from, as a bijection. -/
def around (t : Fin 3) : Dev nD ≃ Dev nD := ⟨writer t, target t, target_writer t, writer_target t⟩

theorem writer_ne (t u : Fin 3) (c : Dev nD) (h : writer t c = writer u c) : t = u := by revert t u c; decide

/-- The device each signal and each copy names. -/
theorem dev1_eq (c : Dev nD) : (⟨k0_dev1 c, k0_dev1_lt c⟩ : Dev nD) = writer 0 c := by revert c; decide +kernel
theorem dev2_eq (c : Dev nD) : (⟨k0_dev2 c, k0_dev2_lt c⟩ : Dev nD) = writer 1 c := by revert c; decide +kernel
theorem dev3_eq (c : Dev nD) : (⟨k0_dev3 c, k0_dev3_lt c⟩ : Dev nD) = writer 2 c := by revert c; decide +kernel
theorem dev4_eq (c : Dev nD) : (⟨k0_dev4 c, k0_dev4_lt c⟩ : Dev nD) = target 2 c := by revert c; decide +kernel
theorem dev5_eq (c : Dev nD) : (⟨k0_dev5 c, k0_dev5_lt c⟩ : Dev nD) = target 1 c := by revert c; decide +kernel
theorem dev6_eq (c : Dev nD) : (⟨k0_dev6 c, k0_dev6_lt c⟩ : Dev nD) = target 0 c := by revert c; decide +kernel
theorem dev7_eq (c : Dev nD) : (⟨k0_dev7 c, k0_dev7_lt c⟩ : Dev nD) = target 2 c := by revert c; decide +kernel
theorem dev8_eq (c : Dev nD) : (⟨k0_dev8 c, k0_dev8_lt c⟩ : Dev nD) = target 1 c := by revert c; decide +kernel
theorem dev9_eq (c : Dev nD) : (⟨k0_dev9 c, k0_dev9_lt c⟩ : Dev nD) = target 0 c := by revert c; decide +kernel

/-! ## The buffers and the eight pieces of the communication buffer -/

abbrev xM : Memref sig .tc .vmem S512x512 .f32 := Memref.whole cc0_stg0_0
abbrev oM : Memref sig .tc .vmem S2x512 .f32 := Memref.whole cc0_stg1_0
abbrev bM : Memref sig .tc .vmem S4x2x512 .f32 := Memref.whole cc0_scratch0

/-- Slot `s`, half `h`, lies inside the buffer; -/
theorem slot_inb (s : Fin 4) (h : Fin 2) : ∀ a : Fin S4x2x512.rank, (![s.val, 0, 256 * h.val] : Fin 3 → ℕ) a + S1x2x256.size a ≤ S4x2x512.size a := by
  revert s h; decide
/-- row `r` of it does. -/
theorem row_inb (s : Fin 4) (r h : Fin 2) : ∀ a : Fin S4x2x512.rank, (![s.val, r.val, 256 * h.val] : Fin 3 → ℕ) a + S1x1x256.size a ≤ S4x2x512.size a := by
  revert s r h; decide
/-- One half of the columns of the input. -/
theorem half_inb (h : Fin 2) : ∀ a : Fin S512x512.rank, (![0, 256 * h.val] : Fin 2 → ℕ) a + S512x256.size a ≤ S512x512.size a := by
  revert h; decide
/-- One row of one half of the output. -/
theorem out_inb (r h : Fin 2) : ∀ a : Fin S2x512.rank, (![r.val, 256 * h.val] : Fin 2 → ℕ) a + S1x256.size a ≤ S2x512.size a := by
  revert r h; decide

abbrev slotR (s : Fin 4) (h : Fin 2) : Rect S4x2x512 := Rect.unit (s := S4x2x512) ![s.val, 0, 256 * h.val] S1x2x256.size (slot_inb s h)
abbrev rowR (s : Fin 4) (r h : Fin 2) : Rect S4x2x512 := Rect.unit (s := S4x2x512) ![s.val, r.val, 256 * h.val] S1x1x256.size (row_inb s r h)
abbrev halfR (h : Fin 2) : Rect S512x512 := Rect.unit (s := S512x512) ![0, 256 * h.val] S512x256.size (half_inb h)
abbrev outR (r h : Fin 2) : Rect S2x512 := Rect.unit (s := S2x512) ![r.val, 256 * h.val] S1x256.size (out_inb r h)

/-- Slot `s`, half `h`, of the communication buffer, as a block of two rows (values, row numbers). -/
abbrev slotM (s : Fin 4) (h : Fin 2) : Memref sig .tc .vmem S2x256 .f32 :=
  (bM.slice (slotR s h) (fun _ => rfl)).squeeze S2x256 squeezes_S1x2x256_S2x256

/-- The elements of the buffer in slot `s`, half `h`. -/
theorem mem_slot (s : Fin 4) (h : Fin 2) (i : S4x2x512.Idx) :
    i ∈ (slotM s h).view.set ↔ (i 0).val = s.val ∧ (i 2).val / 256 = h.val := by
  have e : (slotM s h).view.set = (slotR s h).set := (Idealize.ShloMosaic.Memref.set_view_squeeze _ _).trans (View.set_slice_whole _ _)
  have h1 : (i 1).val < 2 := (i 1).isLt
  have h2 : (i 2).val < 512 := (i 2).isLt
  rw [e, Rect.mem_set_unit]
  constructor
  · intro hi
    have h0 := hi 0
    have h2 := hi 2
    simp only [Matrix.cons_val] at h0 h2
    change s.val ≤ (i 0).val ∧ (i 0).val < s.val + 1 at h0
    change 256 * h.val ≤ (i 2).val ∧ (i 2).val < 256 * h.val + 256 at h2
    exact ⟨by omega, by omega⟩
  · rintro ⟨h0, h2⟩ a
    match a with
    | ⟨0, _⟩ =>
      change s.val ≤ (i 0).val ∧ (i 0).val < s.val + 1
      omega
    | ⟨1, _⟩ =>
      change 0 ≤ (i 1).val ∧ (i 1).val < 0 + 2
      omega
    | ⟨2, _⟩ =>
      change 256 * h.val ≤ (i 2).val ∧ (i 2).val < 256 * h.val + 256
      omega

/-- The eight pieces are disjoint; -/
theorem slots_disjoint (p q : Fin 4 × Fin 2) (hpq : p ≠ q) : Disjoint (slotM p.1 p.2).view.set (slotM q.1 q.2).view.set := by
  rw [Finset.disjoint_left]
  intro i hi hj
  have hi' := (mem_slot _ _ i).mp hi
  have hj' := (mem_slot _ _ i).mp hj
  exact hpq (Prod.ext (Fin.ext (by omega)) (Fin.ext (by omega)))

/-- together they are the whole buffer. -/
theorem slots_cover : (Finset.univ.biUnion fun p : Fin 4 × Fin 2 => (slotM p.1 p.2).view.set) = (Finset.univ : Finset S4x2x512.Idx) := by
  refine Finset.eq_univ_iff_forall.mpr fun i => Finset.mem_biUnion.mpr ?_
  have h0 : (i 0).val < 4 := (i 0).isLt
  have h2 : (i 2).val < 512 := (i 2).isLt
  exact ⟨(⟨(i 0).val, h0⟩, ⟨(i 2).val / 256, by omega⟩), Finset.mem_univ _, (mem_slot _ _ i).mpr ⟨rfl, rfl⟩⟩

/-! ## The semaphores -/

theorem sem_inb (h : Fin 2) (j : Fin 3) : ∀ a : Fin S2x3.rank, (![h.val, j.val] : Fin 2 → ℕ) a + S1x1.size a ≤ S2x3.size a := by
  revert h j; decide

/-- The barrier semaphore of the launch. -/
abbrev barS : Sem sig := (SemArray.scalar (sig.barrier 0 rfl) : Sems sig S_).sem
/-- The semaphore a copy into slot `t + 1`, half `h`, counts on at its sender: the arrays are indexed by the distance to the
    receiver, which is `3 - t`. -/
abbrev sendS (h : Fin 2) (t : Fin 3) : DmaSem sig :=
  ((cc0_scratch1.slice (Rect.unit (s := S2x3) ![h.val, t.rev.val] S1x1.size (sem_inb h t.rev))).squeeze S_ squeezes_S1x1_S_).sem
/-- The semaphore a copy into slot `t + 1`, half `h`, counts on at its receiver. -/
abbrev recvS (h : Fin 2) (t : Fin 3) : DmaSem sig :=
  ((cc0_scratch2.slice (Rect.unit (s := S2x3) ![h.val, t.val] S1x1.size (sem_inb h t))).squeeze S_ squeezes_S1x1_S_).sem

/-- The thirteen semaphores a device uses: the barrier, a send and a receive semaphore per slot and half. -/
inductive Cell where
  | bar
  | send (h : Fin 2) (t : Fin 3)
  | recv (h : Fin 2) (t : Fin 3)
deriving DecidableEq

/-- All of them in one list. -/
def allCells : List Cell :=
  [.bar, .send 0 0, .send 0 1, .send 0 2, .send 1 0, .send 1 1, .send 1 2,
    .recv 0 0, .recv 0 1, .recv 0 2, .recv 1 0, .recv 1 1, .recv 1 2]

theorem allCells_nodup : allCells.Nodup := by decide
theorem mem_allCells (k : Cell) : k ∈ allCells := by
  cases k with
  | bar => decide
  | send h t => revert h t; decide
  | recv h t => revert h t; decide

instance : Fintype Cell := ⟨⟨allCells, allCells_nodup⟩, mem_allCells⟩

/-- A cell's semaphore, -/
abbrev csem : Cell → SemLoc sig
  | .bar => .reg barS
  | .send h t => .dma (sendS h t)
  | .recv h t => .dma (recvS h t)
/-- and the cell itself on one device. -/
abbrev kcell (ck : Dev nD × Cell) : GSem nD τ sig := ((ck.1 : Thread nD τ), csem ck.2)

theorem csem_injective : Function.Injective csem := by
  have h : ∀ a b : Cell, csem a = csem b → a = b := by decide +kernel
  exact h

theorem kcell_injective : Function.Injective (kcell : Dev nD × Cell → GSem nD τ sig) := by
  rintro ⟨c, k⟩ ⟨c', k'⟩ h
  have h1 : c = c' := by have := congrArg (fun g => g.1.1) h; exact this
  exact Prod.ext h1 (csem_injective (congrArg (fun g => g.2) h))

/-- What one copy of a 2 × 256 block counts on its semaphores. -/
abbrev N : ℕ := (slotM 0 0).view.dmaCredit
theorem N_pos : 0 < N := View.dmaCredit_pos _ (by decide)
theorem N_eq (s : Fin 4) (h : Fin 2) : (slotM s h).view.dmaCredit = N := rfl

end Cert.ArgMax

end
-- ==== Proof.Schedule.lean ====
/-
# Who hands what to whom

Every semaphore of the kernel is used once. Before it writes to another device, a device waits on its barrier semaphore
for one unit from each of the three others; the unit from the device whose slot `t + 1` it is going to write hands it
that slot. A copy's receive semaphore hands the receiver the slot holding the sender's partial result, and its send
semaphore hands the sender back the share of its own slot 0 the copy was reading. This module states the partial result,
that schedule, and what every device owes at the launch.
-/
module

public import proofs.«01_k».proof.Proof.Cells

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What one device computes from its own rows -/

/-- Device `c`'s block of the input, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The device's number, as the kernel's integer word. -/
abbrev word (c : Dev nD) : BitVec 32 := Scalar.remsi (Scalar.divsi (Dev.word c) 1#32) 4#32

/-- Half `h` of the columns of a block. -/
def half (x : (cc0_stg0_0 : Ref sig .tc).ty.Contents (Elt F)) (h : Fin 2) : Vec F S512x256 .f32 :=
  xM.view.readAt (Elt F) (halfR h).toLoadRect x

/-- The partial result of device `c` on half `h`: row 0 the largest value of each column of its own rows, row 1 the row that
    value is first at. -/
def part (c : Dev nD) (h : Fin 2) : S2x256.Idx → Elt F .f32 :=
  shapeCast S2x256 (k0_pay1 (word c) (half (xstg m ρ c) h)) shapeCasts_S1x2x256_S2x256

/-! ## Owning a piece of the communication buffer -/

/-- Device `c` owns slot `s`, half `h`, at share `q`, and it holds `X`; -/
abbrev slotAt (c : Dev nD) (s : Fin 4) (h : Fin 2) (q : PosShare TreeShare) (X : S2x256.Idx → Elt F .f32) : sProp 𝕄 :=
  owns (c : Thread nD τ) (slotM s h) q X
/-- it owns all of it, at whatever contents. -/
def slotAny (c : Dev nD) (s : Fin 4) (h : Fin 2) : sProp 𝕄 :=
  iprop(∃ f, (slotM s h).view.loc (c : Thread nD τ) ↦[(slotM s h).view.set]{fullShare} f)

instance slotAny_storable (c : Dev nD) (s : Fin 4) (h : Fin 2) : BI.Storable (upEmb : UEmb _ 𝕄) (slotAny (F := F) c s h) := by
  unfold slotAny; infer_instance

theorem slotAny_of_at (c : Dev nD) (s : Fin 4) (h : Fin 2) (X : S2x256.Idx → Elt F .f32) :
    slotAt c s h fullShare X ⊢ slotAny (F := F) c s h := by
  unfold slotAt owns slotAny
  iintro ⟨%f, -, H⟩
  iexists f; iexact H

/-- The share of slot 0 the copy for slot `t + 1` reads with; the device keeps the fourth quarter. -/
def quarter (t : Fin 3) : PosShare TreeShare :=
  match t with
  | 0 => (fullShare : PosShare TreeShare).left.left
  | 1 => (fullShare : PosShare TreeShare).left.right
  | 2 => (fullShare : PosShare TreeShare).right.left
def kept : PosShare TreeShare := (fullShare : PosShare TreeShare).right.right

/-- The four quarters make up slot 0. -/
theorem slot_quarters (c : Dev nD) (s : Fin 4) (h : Fin 2) (X : S2x256.Idx → Elt F .f32) :
    slotAt (F := F) c s h fullShare X
      ⊣⊢ iprop((slotAt c s h (quarter 0) X ∗ slotAt c s h (quarter 1) X) ∗ (slotAt c s h (quarter 2) X ∗ slotAt c s h kept X)) :=
  ⟨(owns_halves _ _ _ _).1.trans (BIClass.sep_mono (owns_halves _ _ _ _).1 (owns_halves _ _ _ _).1),
    (BIClass.sep_mono (owns_halves _ _ _ _).2 (owns_halves _ _ _ _).2).trans (owns_halves _ _ _ _).2⟩

/-! ## The schedule -/

/-- Which of the thirteen a semaphore is. -/
def kindOf (sm : SemLoc sig) : Option Cell := allCells.find? fun k => decide (csem k = sm)

theorem kindOf_csem (k : Cell) : kindOf (csem k) = some k := by
  have h : ∀ k : Cell, kindOf (csem k) = some k := by decide +kernel
  exact h k

/-- The duties of a semaphore of each kind, -/
def dutiesOf : Cell → Finset (Fin 3)
  | .bar => Finset.univ
  | .send _ _ => {0}
  | .recv _ _ => {0}
/-- what one of them counts, -/
def unitOf : Cell → ℕ
  | .bar => 1
  | .send _ _ => N
  | .recv _ _ => N
/-- what all of them count, -/
def totalOf : Cell → ℕ
  | .bar => 3
  | .send _ _ => N
  | .recv _ _ => N
/-- and what one of them hands to the device `c` that waits on it. -/
def payOf (c : Dev nD) : Cell → Fin 3 → sProp 𝕄
  | .bar, t => iprop(slotAny (target t c) t.succ 0 ∗ slotAny (target t c) t.succ 1)
  | .send h t, _ => slotAt c 0 h (quarter t) (part m ρ c h)
  | .recv h t, _ => slotAt c t.succ h fullShare (part m ρ (writer t c) h)

instance payOf_storable (c : Dev nD) (k : Cell) (d : Fin 3) : BI.Storable (upEmb : UEmb _ 𝕄) (payOf m ρ c k d) := by
  cases k <;> (unfold payOf; infer_instance)

theorem unitOf_pos (k : Cell) : 0 < unitOf k := by cases k <;> first | exact Nat.one_pos | exact N_pos

/-- One round. -/
def Rd : Rounds.Schedule (GSem nD τ sig) (Fin 3) 𝕄 where
  duties g r := if r = 0 ∧ g.1.2 = .tc then (kindOf g.2).elim ∅ dutiesOf else ∅
  unitless _ := False
  amount g _ _ := (kindOf g.2).elim 1 unitOf
  payload g _ d := (kindOf g.2).elim iprop(emp) fun k => payOf m ρ g.1.1 k d
  amount_pos g _ _ _ := by
    cases kindOf g.2 with
    | none => exact Nat.one_pos
    | some k => exact unitOf_pos k

instance Rd_payload_storable (g : GSem nD τ sig) (r : ℕ) (d : Fin 3) :
    BI.Storable (upEmb : UEmb _ 𝕄) ((Rd (F := F) m ρ).payload g r d) := by
  show BI.Storable upEmb ((kindOf g.2).elim iprop(emp) fun k => payOf m ρ g.1.1 k d)
  cases kindOf g.2 with
  | none => show BI.Storable upEmb iprop(emp); infer_instance
  | some k => exact payOf_storable m ρ g.1.1 k d

section Sched
variable (c : Dev nD) (k : Cell)

theorem duties_cell : (Rd (F := F) m ρ).duties (kcell (c, k)) 0 = dutiesOf k := by
  dsimp only [Rd]
  rw [if_pos ⟨rfl, rfl⟩, kindOf_csem]; rfl
theorem duties_later (g : GSem nD τ sig) : ∀ r, 1 ≤ r → (Rd (F := F) m ρ).duties g r = ∅ :=
  fun r hr => by dsimp only [Rd]; rw [if_neg fun h => by omega]
theorem amount_cell (d : Fin 3) : (Rd (F := F) m ρ).amount (kcell (c, k)) 0 d = unitOf k := by
  dsimp only [Rd]; rw [kindOf_csem]; rfl
theorem payload_cell (d : Fin 3) : (Rd (F := F) m ρ).payload (kcell (c, k)) 0 d = payOf m ρ c k d := by
  dsimp only [Rd]; rw [kindOf_csem]; rfl
theorem expect_cell : (Rd (F := F) m ρ).expect (kcell (c, k)) 0 = totalOf k := by
  unfold Schedule.expect Schedule.amountOf
  rw [duties_cell, Finset.sum_congr rfl fun d _ => amount_cell m ρ c k d, Finset.sum_const]
  cases k <;> simp [dutiesOf, unitOf, totalOf]
/-- All a wait on a semaphore hands over. -/
theorem rest_cell : bigSep ((Rd (F := F) m ρ).duties (kcell (c, k)) 0 \ ∅) (fun d => (Rd (F := F) m ρ).payload (kcell (c, k)) 0 d)
    = bigSep (dutiesOf k) (payOf m ρ c k) := by
  rw [Finset.sdiff_empty, duties_cell]
  exact bigSep_congr fun d _ => payload_cell m ρ c k d

end Sched

/-! ## What each device owes at the launch, in the order it pays -/

/-- The nine payments of device `c`: a unit to each of the three other devices' barriers, then the copies. -/
def dues (c : Dev nD) : List (Dev nD × Cell) :=
  [(writer 0 c, .bar), (writer 1 c, .bar), (writer 2 c, .bar),
    (target 2 c, .recv 0 2), (target 1 c, .recv 0 1), (target 0 c, .recv 0 0),
    (target 2 c, .recv 1 2), (target 1 c, .recv 1 1), (target 0 c, .recv 1 0)]

/-- The debt of a list of payments. -/
def debt : List (Dev nD × Cell) → CellTallies nD τ sig Unit
  | [] => 0
  | p :: l => debt l + tallyAt (kcell p) () (unitOf p.2)

theorem debt_pos {l : List (Dev nD × Cell)} {g : GSem nD τ sig} {u : Unit} (h : 0 < debt l g u) : ∃ p ∈ l, g = kcell p := by
  induction l with
  | nil => exact absurd h (Nat.lt_irrefl 0)
  | cons p l ih =>
    unfold debt at h
    rw [Pi.add_apply, Finsupp.add_apply, tallyAt_apply] at h
    by_cases hg : g = kcell p
    · exact ⟨p, List.mem_cons_self, hg⟩
    · rw [if_neg (fun h' => hg h'.1), Nat.add_zero] at h
      obtain ⟨q, hq, e⟩ := ih h
      exact ⟨q, List.mem_cons_of_mem _ hq, e⟩

/-- What a list of payments pays to one semaphore. -/
theorem debt_apply (l : List (Dev nD × Cell)) (q : Dev nD × Cell) : debt l (kcell q) () = l.count q * unitOf q.2 := by
  induction l with
  | nil => rw [List.count_nil, Nat.zero_mul]; rfl
  | cons p l ih =>
    unfold debt
    rw [Pi.add_apply, Finsupp.add_apply, tallyAt_apply, ih]
    by_cases hg : p = q
    · subst hg; rw [if_pos ⟨rfl, rfl⟩, List.count_cons_self, Nat.add_mul, Nat.one_mul]
    · rw [if_neg (fun h' => hg (kcell_injective h'.1).symm), List.count_cons_of_ne hg, Nat.add_zero]

/-- How many payments a semaphore of each kind gets in all. -/
def paidTimes : Cell → ℕ
  | .bar => 3
  | .send _ _ => 0
  | .recv _ _ => 1
theorem dues_count (q : Dev nD × Cell) : ∑ d : Dev nD, (dues d).count q = paidTimes q.2 := by
  have h : ∀ (c : Dev nD) (k : Cell), ∑ d : Dev nD, (dues d).count (c, k) = paidTimes k := by decide +kernel
  exact h q.1 q.2

/-! ## Levels: a device waits on its barrier owing copies, and on nothing else owing anything -/

def L (g : GSem nD τ sig) : Finset Unit := if g.1.2 = .tc then {()} else ∅
def levelOf : Cell → ℕ
  | .bar => 1
  | .send _ _ => 0
  | .recv _ _ => 2
def lv (g : GSem nD τ sig) (_ : Unit) : ℕ := (kindOf g.2).elim 0 levelOf

theorem L_of_ne (g : GSem nD τ sig) (h : g.1.2 ≠ .tc) : L g = ∅ := if_neg h
theorem L_tc (c : Dev nD) (sm : SemLoc sig) : L ((c : Thread nD τ), sm) = {()} := if_pos rfl
theorem lv_cell (p : Dev nD × Cell) (u : Unit) : lv (kcell p) u = levelOf p.2 := by
  unfold lv; rw [kindOf_csem]; rfl

/-- A wait at a level below everything still owed is allowed. -/
theorem mayWait_below (c : Dev nD) (sm : SemLoc sig) (l : List (Dev nD × Cell)) (n : ℕ) (hn : lv ((c : Thread nD τ), sm) () = n)
    (hl : ∀ p ∈ l, n < levelOf p.2) : (levAts L lv : sProp 𝕄) ⊢ MayWait (c : Thread nD τ) sm () (debt l) :=
  MayOwe.of_cut (L := L) (lev := lv) n (fun p hp => by rw [Finset.mem_singleton.mp hp, L_tc]; exact Finset.mem_singleton_self _)
    (fun g u hg => by
      obtain ⟨p, -, rfl⟩ := debt_pos hg
      exact Finset.mem_singleton_self _)
    (fun p hp => by rw [Finset.mem_singleton.mp hp]; exact le_of_eq hn)
    (fun g u hg => by
      obtain ⟨p, hp, rfl⟩ := debt_pos hg
      rw [lv_cell]; exact hl p hp)

end Cert.ArgMax

end
-- ==== Proof.Ops.lean ====
/-
# One rule for each kind of operation the kernel performs

The kernel signals a barrier three times, waits on its own, makes six copies, waits twelve times on a copy's semaphore,
and reads and writes rows of three buffers. Each kind of operation is stated here once, for any slot, half and device: what it
needs, and what it leaves. A wait also closes its semaphore, which is not used again.
-/
module

public import proofs.«01_k».proof.Proof.Schedule

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg) (K : Dev nD × Cell → ℕ)

/-! ## What every device knows and what it owes -/

/-- Every semaphore of every device is under the schedule, and has reached its round. -/
def records : sProp 𝕄 :=
  iprop((bigSep Finset.univ fun p => cellInv EX (Rd m ρ) (K p) (kcell p)) ∗ bigSep Finset.univ fun p => reached EX (kcell p) 0)

instance records_persistent : BI.Persistent (records m ρ K) := by unfold records; infer_instance

theorem records_inv (p : Dev nD × Cell) : BIBase.Entails (records m ρ K) (cellInv EX (Rd m ρ) (K p) (kcell p)) :=
  BIBase.Entails.trans sep_elim_left
    (bigSep_elim (Finset.mem_univ p) (Φ := fun p => (cellInv EX (Rd m ρ) (K p) (kcell p) : sProp 𝕄)))
theorem records_reached (p : Dev nD × Cell) : BIBase.Entails (records m ρ K) (reached EX (kcell p) 0) :=
  BIBase.Entails.trans sep_elim_right
    (bigSep_elim (Finset.mem_univ p) (Φ := fun p => (reached EX (kcell p) 0 : sProp 𝕄)))

/-- A device owes `O`, having waited on whatever it has. -/
def owing (c : Dev nD) (O : CellTallies nD τ sig Unit) : sProp 𝕄 := iprop(∃ W, owes (c : Thread nD τ) O W)

/-- The rest of the program, from device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem payOf_bar (c : Dev nD) (t : Fin 3) :
    payOf m ρ c .bar t = iprop(slotAny (target t c) t.succ 0 ∗ slotAny (target t c) t.succ 1) := rfl

/-! ## Signals, copies and waits -/

/-- A signal to the device that writes slot `t + 1` hands it that slot. -/
theorem run_signal (c n : Dev nD) (t : Fin 3) (hn : n = writer t c) (l : List (Dev nD × Cell)) {k' : ℕ} (hk' : 1 = k')
    {α : Type} {Q : α → sProp 𝕄} {k : PUnit → Prog (TpuEff nD τ sig (Elt F) Λ₀ .tc) α} :
    iprop(records m ρ K ∗ owing c (debt ((writer t c, .bar) :: l)) ∗ dutyTok EX (kcell (writer t c, .bar)) 0 t
        ∗ slotAny c t.succ 0 ∗ slotAny c t.succ 1)
      ⊢ iprop((owing c (debt l) -∗ run c (k ⟨⟩) Q) -∗ run c (.op (.semSignal (n : Thread nD τ) barS k') k) Q) := by
  subst hn
  unfold owing run
  iintro ⟨#HR, ⟨%W, HO⟩, Ht, Hs0, Hs1⟩ Hk
  iapply (Rounds.wp_signal 𝒱₀ EX (Rd m ρ) (c : Thread nD τ) none (dst := (writer t c : Thread nD τ)) (κ := K (writer t c, .bar)) (W := W)
      (r := 0) (d := t) ((duties_cell m ρ (writer t c) .bar).symm ▸ Finset.mem_univ t) ((amount_cell m ρ (writer t c) .bar t).trans hk') ()
      (O₀ := debt ((writer t c, .bar) :: l)) (debt l) (by rw [← hk']; rfl)) $$ [HO Ht Hs0 Hs1]
  · isplitr; · iapply (records_inv m ρ K (writer t c, .bar)); iexact HR
    isplitl [HO]; · iexact HO
    isplitl [Ht]; · iexact Ht
    isplitl [Hs0 Hs1]
    · iapply (Entails.of_eq (payload_cell m ρ (writer t c) .bar t).symm)
      rw [payOf_bar, target_writer]
      isplitl [Hs0] <;> iassumption
    · iapply (records_reached m ρ K (writer t c, .bar)); iexact HR
  iintro HO
  iapply Hk
  iexists W; iexact HO

/-- The wait on its own barrier hands a device the slot of each other device it writes. -/
theorem run_wait_bar (c : Dev nD) (l : List (Dev nD × Cell)) (hl : ∀ p ∈ l, 1 < levelOf p.2) {k' : ℕ} (hk' : 3 = k')
    {α : Type} {Q : α → sProp 𝕄} {k : PUnit → Prog (TpuEff nD τ sig (Elt F) Λ₀ .tc) α} :
    iprop(records m ρ K ∗ cred (tallyAt (kcell (c, .bar)) () 3) ∗ owing c (debt l) ∗ levAts L lv ∗ atPos EX (kcell (c, .bar)) 0 ∅ 0)
      ⊢ iprop(((owing c (debt l) ∗ semVal (kcell (c, .bar)) 0 ∗ bigSep Finset.univ (payOf m ρ c .bar)) -∗ run c (k ⟨⟩) Q)
          -∗ run c (.op (.semWait barS k') k) Q) := by
  subst hk'
  unfold owing run
  iintro ⟨#HR, Hc, ⟨%W, HO⟩, #Hlev, Hat⟩ Hk
  ihave #HI := (records_inv m ρ K (c, .bar)) $$ HR
  iapply (Rounds.wp_wait_rest_token 𝒱₀ EX (Rd m ρ) (c : Thread nD τ) none (κ := K (c, .bar)) (sm := .reg barS)
      (wpE_semWait_eq 𝒱₀ (c : Thread nD τ) none Set.univ) (Set.mem_univ _) () (O := debt l) (W := W) (R := 0) (m := 0) (T := ∅)
      ((Nat.zero_add 3).trans (expect_cell m ρ c .bar).symm)) $$ [Hc HO Hat]
  · isplitr; · iexact HI
    isplitl [Hc]; · iexact Hc
    isplitl [HO]; · iexact HO
    isplitr
    · iapply (mayWait_below c (.reg barS) l 1 (lv_cell (c, .bar) ()) hl); iexact Hlev
    iexact Hat
  iintro ⟨HO, Hat, -, Hpay⟩
  imod (Rounds.cell_close EX (Rd m ρ) (Set.mem_univ (K (c, .bar))) (fun h => h) (R := 0 + 1) (duties_later m ρ (kcell (c, .bar)))) $$ [Hat] with Hz
  · isplitr; · iexact HI
    iexact Hat
  iapply Hk
  isplitl [HO]; · iexists _; iexact HO
  isplitl [Hz]; · iexact Hz
  ihave Hp := (Entails.of_eq (rest_cell m ρ c .bar)) $$ Hpay
  iexact Hp

/-- A wait on the semaphore of a copy, owing nothing, hands the device what the copy's end hands over. -/
theorem run_wait_copy (c : Dev nD) (g : Cell) (sm : DmaSem sig) (hg : csem g = .dma sm) (hT : totalOf g = N) (hD : dutiesOf g = {0})
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α} :
    iprop(records m ρ K ∗ cred (tallyAt (kcell (c, g)) () N) ∗ owing c 0 ∗ atPos EX (kcell (c, g)) 0 ∅ 0)
      ⊢ iprop(((owing c 0 ∗ semVal (kcell (c, g)) 0 ∗ payOf m ρ c g 0) -∗ run c (k ⟨⟩) Q)
          -∗ run c (.op (.waitDma2 sm src dst hsrc hdst) k) Q) := by
  unfold owing run
  iintro ⟨#HR, Hc, ⟨%W, HO⟩, Hat⟩ Hk
  ihave #HI := (records_inv m ρ K (c, g)) $$ HR
  have hw : ∀ Kt : PUnit → sProp 𝕄, wpE (defs₀ (F := F)) 𝒱₀ (c : Thread nD τ) none Set.univ (.waitDma2 sm src dst hsrc hdst) Kt
      = waitSpec (c : Thread nD τ) Set.univ (csem g) N Kt := fun Kt => by rw [hg, ← hN]; rfl
  iapply (Rounds.wp_wait_rest_token 𝒱₀ EX (Rd m ρ) (c : Thread nD τ) none (κ := K (c, g)) (sm := csem g)
      hw (Set.mem_univ _) () (O := 0) (W := W) (R := 0) (m := 0) (T := ∅)
      ((Nat.zero_add N).trans (hT.symm.trans (expect_cell m ρ c g).symm))) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close EX (Rd m ρ) (Set.mem_univ (K (c, g))) (fun h => h) (R := 0 + 1) (duties_later m ρ (kcell (c, g)))) $$ [Hat] with Hz
  · isplitr; · iexact HI
    iexact Hat
  iapply Hk
  isplitl [HO]; · iexists _; iexact HO
  isplitl [Hz]; · iexact Hz
  ihave Hp := (Entails.of_eq ((rest_cell m ρ c g).trans (by rw [hD, bigSep_singleton]))) $$ Hpay
  iexact Hp

/-- A copy of slot 0 into slot `t + 1` of the device that slot is this device's to write. -/
theorem run_copy (c n : Dev nD) (h : Fin 2) (t : Fin 3) (hn : n = target t c) (l : List (Dev nD × Cell))
    {hsc : (slotM t.succ h : Memref sig (Dev.tc n : Thread nD τ).2.kind .vmem S2x256 .f32).view.ref.isScScratch = false}
    {hsrc : (slotM 0 h).view.WordExact} {hdst : (slotM t.succ h).view.WordExact}
    {hsem : DmaTarget.Typed .vmem (.dma (recvS h t)) (.remote (Dev.tc n : Thread nD τ) (slotM t.succ h) (.dma (sendS h t)) hsc)}
    {α : Type} {Q : α → sProp 𝕄} {k : PUnit → Prog (TpuEff nD τ sig (Elt F) Λ₀ .tc) α} :
    iprop(records m ρ K ∗ slotAt c 0 h (quarter t) (part m ρ c h) ∗ slotAny (target t c) t.succ h
        ∗ owing c (debt ((target t c, .recv h t) :: l))
        ∗ dutyTok EX (kcell (c, .send h t)) 0 0 ∗ dutyTok EX (kcell (target t c, .recv h t)) 0 0)
      ⊢ iprop(((cred (tallyAt (kcell (c, .send h t)) () N) ∗ owing c (debt l)) -∗ run c (k ⟨⟩) Q)
          -∗ run c (.op (.enqueueDma (slotM 0 h) (.remote (Dev.tc n : Thread nD τ) (slotM t.succ h) (.dma (sendS h t)) hsc)
              (.dma (recvS h t)) hsrc hdst hsem) k) Q) := by
  subst hn
  unfold owing run slotAt slotAny
  conv_lhs => unfold owns
  iintro ⟨#HR, ⟨%fs, %hfs, Hs⟩, ⟨%fd, Hd⟩, ⟨%W, HO⟩, HtS, HtR⟩ Hk
  iapply (Rounds.wp_send_pointsTo 𝒱₀ EX (Rd m ρ) (c : Thread nD τ) none (κ₁ := K (c, .send h t)) (κ₂ := K (target t c, .recv h t))
    (q := quarter t) (fs := fs) (fd := fd) (r₁ := 0) (r₂ := 0) (d₁ := 0) (d₂ := 0)
    ((duties_cell m ρ c (.send h t)).symm ▸ Finset.mem_singleton_self _)
    ((duties_cell m ρ (target t c) (.recv h t)).symm ▸ Finset.mem_singleton_self _)
    () () N rfl (amount_cell m ρ c (.send h t) 0) (amount_cell m ρ (target t c) (.recv h t) 0)
    (O₀ := debt ((target t c, .recv h t) :: l)) (debt l) rfl (W := W)
    (by
      refine BIBase.Entails.trans ?_ (Entails.of_eq (payload_cell m ρ c (.send h t) 0).symm)
      show _ ⊢ slotAt c 0 h (quarter t) (part m ρ c h)
      rw [← hfs]
      exact owns_intro _ _ _ fs)
    (by
      refine BIBase.Entails.trans ?_ (Entails.of_eq (payload_cell m ρ (target t c) (.recv h t) 0).symm)
      show _ ⊢ slotAt (target t c) t.succ h fullShare (part m ρ (writer t (target t c)) h)
      rw [writer_target, ← hfs]
      have e := View.read_write_univ (v := (slotM t.succ h).view) (f := fd) ((slotM 0 h).view.read (Elt F) fs)
      have o := owns_intro (Ix := Unit) (Name := ℕ) (U := UU) (Lvl := ℕ) (target t c : Thread nD τ) (slotM t.succ h) fullShare
        ((slotM t.succ h).view.write (Elt F) fd ((slotM 0 h).view.read (Elt F) fs) Finset.univ)
      rw [e] at o
      exact o)) $$ [Hs Hd HO HtS HtR]
  · isplitr; · iapply (records_inv m ρ K (c, .send h t)); iexact HR
    isplitr; · iapply (records_inv m ρ K (target t c, .recv h t)); iexact HR
    isplitl [Hs]; · iexact Hs
    isplitl [Hd]; · iexact Hd
    isplitl [HO]; · iexact HO
    isplitl [HtS]; · iexact HtS
    isplitr; · iapply (records_reached m ρ K (c, .send h t)); iexact HR
    isplitl [HtR]; · iexact HtR
    iapply (records_reached m ρ K (target t c, .recv h t)); iexact HR
  iintro ⟨Hc, HO⟩
  iapply Hk
  isplitl [Hc]; · iexact Hc
  iexists W; iexact HO

end Cert.ArgMax

end
-- ==== Proof.Access.lean ====
/-
# The kernel's reads and writes of its three buffers, and its result

A row of a slot read as a 1 × 1 × 256 block is that row of what the slot holds; a block stored at slot 0 makes slot 0 hold
it; the four rows stored in the output cover it. The result of a device is the combination, three times over, of the
partial results its four slots hold.
-/
module

public import proofs.«01_k».proof.Proof.Ops
public import Idealize.ShloMosaic.Lib.Pointwise.Index
public import Idealize.ShloMosaic.Lib.Pipeline.Value

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Reading a row of a slot -/

/-- Row `r` of a block of two rows, as the kernel loads it. -/
def rowOf (X : S2x256.Idx → Elt F .f32) (r : Fin 2) : Vec F S1x1x256 .f32 := fun i => X (ix2 r (i 2))

theorem read_row (s : Fin 4) (r h : Fin 2) (f : (cc0_scratch0 : Ref sig .tc).ty.Contents (Elt F)) :
    bM.view.readAt (Elt F) (rowR s r h).toLoadRect f = rowOf ((slotM s h).view.read (Elt F) f) r := by
  funext i
  have e := Memref.read_squeeze_slice (Val := Elt F) bM (slotR s h) (fun _ => rfl) squeezes_S1x2x256_S2x256 shapeCasts_S1x2x256_S2x256 f
  unfold rowOf
  rw [e]
  have e2 := shapeCast_dropUnit_apply (![2, 256] : Fin 2 → ℕ) (bM.view.readAt (Elt F) (slotR s h).toLoadRect f) shapeCasts_S1x2x256_S2x256
    (ix2 r (i 2))
  refine Eq.trans ?_ e2.symm
  have h0 : (i 0).val = 0 := by have : (i 0).val < 1 := (i 0).isLt; omega
  have h1 : (i 1).val = 0 := by have : (i 1).val < 1 := (i 1).isLt; omega
  refine congrArg f (funext fun a => Fin.ext ?_)
  match a with
  | ⟨0, _⟩ =>
    change s.val + 1 * (i 0).val = s.val + 1 * 0
    rw [h0]
  | ⟨1, _⟩ =>
    change r.val + 1 * (i 1).val = 0 + 1 * r.val
    rw [h1]; omega
  | ⟨2, _⟩ => rfl

theorem row_subset (s : Fin 4) (r h : Fin 2) : bM.view.setOn (rowR s r h).toLoadRect.set ⊆ (slotM s h).view.set := by
  intro i hi
  have hi' : i ∈ (rowR s r h).toLoadRect.set := by
    obtain ⟨x, hx, rfl⟩ := Finset.mem_map.mp hi
    exact hx
  rw [mem_slot]
  have hi2 := Rect.mem_set_unit.mp hi'
  have a0 := hi2 0
  have a2 := hi2 2
  change s.val ≤ (i 0).val ∧ (i 0).val < s.val + 1 at a0
  change 256 * h.val ≤ (i 2).val ∧ (i 2).val < 256 * h.val + 256 at a2
  exact ⟨by omega, by omega⟩

/-- A device that owns a slot, at any share, loads a row of it. -/
theorem run_load_row (c : Dev nD) (s : Fin 4) (r h : Fin 2) (q : PosShare TreeShare) (X : S2x256.Idx → Elt F .f32)
    {hl : bM.view.LoadsAt (rowR s r h).toLoadRect} {α : Type} {Q : α → sProp 𝕄}
    {k : Vec F S1x1x256 .f32 → Prog (TpuEff nD τ sig (Elt F) Λ₀ .tc) α} :
    slotAt c s h q X ⊢ iprop((slotAt c s h q X -∗ run c (k (rowOf X r)) Q) -∗ run c (.op (.load bM (rowR s r h).toLoadRect hl) k) Q) := by
  unfold slotAt owns run
  iintro ⟨%f, %hf, H⟩ Hk
  iapply (wp_load 𝒱₀ (c : Thread nD τ) none Set.univ (m := bM) (row_subset s r h)) $$ H
  iintro H
  rw [read_row, hf]
  iapply Hk
  iexists f; isplitr; · ipureintro; exact hf
  iexact H

/-! ## Writing slot 0 -/

theorem slot_subset (s : Fin 4) (h : Fin 2) : bM.view.setOn (slotR s h).toLoadRect.set ⊆ (slotM s h).view.set := by
  have e : (slotM s h).view.set = (slotR s h).set := (Idealize.ShloMosaic.Memref.set_view_squeeze _ _).trans (View.set_slice_whole _ _)
  intro i hi
  obtain ⟨x, hx, rfl⟩ := Finset.mem_map.mp hi
  rw [e]; exact hx
theorem slot_write_subset (s : Fin 4) (h : Fin 2) : (bM.access (slotR s h)).setOn Finset.univ ⊆ (slotM s h).view.set := by
  rw [Idealize.ShloMosaic.Memref.set_view_squeeze]; exact fun _ h => h

/-- The kernel reads a slot it is about to overwrite, and drops what it read. -/
theorem run_load_slot (c : Dev nD) (s : Fin 4) (h : Fin 2)
    {hl : bM.view.LoadsAt (slotR s h).toLoadRect} {α : Type} {Q : α → sProp 𝕄} {p : Prog (TpuEff nD τ sig (Elt F) Λ₀ .tc) α} :
    slotAny c s h ⊢ iprop((slotAny c s h -∗ run c p Q) -∗ run c (.op (.load bM (slotR s h).toLoadRect hl) fun _ => p) Q) := by
  unfold slotAny run
  iintro ⟨%f, H⟩ Hk
  iapply (wp_load 𝒱₀ (c : Thread nD τ) none Set.univ (m := bM) (slot_subset s h)) $$ H
  iintro H
  iapply Hk
  iexists f; iexact H

/-- A block stored at a slot is what the slot holds. -/
theorem run_store_slot (c : Dev nD) (s : Fin 4) (h : Fin 2) (w : Vec F S1x2x256 .f32)
    {hx : (bM.access (slotR s h)).Stores Finset.univ} {hm : (Finset.univ : Finset (slotR s h).shape.Idx) = Finset.univ ∨ ∀ a, (slotR s h).stride a = 1}
    {α : Type} {Q : α → sProp 𝕄} {k : PUnit → Prog (TpuEff nD τ sig (Elt F) Λ₀ .tc) α} :
    slotAny c s h ⊢ iprop((slotAt c s h fullShare (shapeCast S2x256 w shapeCasts_S1x2x256_S2x256) -∗ run c (k ⟨⟩) Q)
      -∗ run c (.op (.store bM (slotR s h) w Finset.univ hx hm) k) Q) := by
  unfold slotAny run
  iintro ⟨%f, H⟩ Hk
  iapply (wp_store 𝒱₀ (c : Thread nD τ) none Set.univ (m := bM) (r := slotR s h) (Mk := Finset.univ) (slot_write_subset s h)) $$ H
  iintro H
  iapply Hk
  unfold slotAt owns
  iexists _
  isplitr
  rotate_left
  · iexact H
  · ipureintro
    have e := Memref.read_squeeze_slice (Val := Elt F) bM (slotR s h) (fun _ => rfl) squeezes_S1x2x256_S2x256 shapeCasts_S1x2x256_S2x256
      ((bM.access (slotR s h)).write (Elt F) f w Finset.univ)
    refine e.trans ?_
    rw [View.readAt_rect]
    exact congrArg (fun v => shapeCast S2x256 v shapeCasts_S1x2x256_S2x256)
      (View.read_write_univ (v := bM.access (slotR s h)) (f := f) w)

/-! ## The result -/

/-- The values, and the rows they are at, of the combination of four partial results. -/
def combVal (a b c d : S2x256.Idx → Elt F .f32) : FVec F S1x256 .f32 :=
  k0_pay37 (k0_pay22 (rowOf a 0)) (k0_pay23 (rowOf a 1)) (k0_pay24 (rowOf b 0)) (k0_pay25 (rowOf b 1)) (rowOf c 0) (rowOf c 1) (rowOf d 0) (rowOf d 1)
def combIdx (a b c d : S2x256.Idx → Elt F .f32) : FVec F S1x256 .f32 :=
  k0_pay38 (k0_pay22 (rowOf a 0)) (k0_pay23 (rowOf a 1)) (k0_pay24 (rowOf b 0)) (k0_pay25 (rowOf b 1)) (rowOf c 0) (rowOf c 1) (rowOf d 0) (rowOf d 1)

/-- The kernel computes the first half's by the same operations, cut in other places. -/
theorem combVal_first (a b c d : S2x256.Idx → Elt F .f32) :
    k0_pay20 (k0_pay10 (rowOf a 0) (rowOf a 1) (rowOf b 0) (rowOf b 1)) (k0_pay11 (rowOf a 0) (rowOf a 1) (rowOf b 0) (rowOf b 1))
      (k0_pay12 (rowOf c 0)) (rowOf c 1) (rowOf d 0) (rowOf d 1) = combVal a b c d := rfl
theorem combIdx_first (a b c d : S2x256.Idx → Elt F .f32) :
    k0_pay21 (k0_pay10 (rowOf a 0) (rowOf a 1) (rowOf b 0) (rowOf b 1)) (k0_pay11 (rowOf a 0) (rowOf a 1) (rowOf b 0) (rowOf b 1))
      (k0_pay12 (rowOf c 0)) (rowOf c 1) (rowOf d 0) (rowOf d 1) = combIdx a b c d := rfl

variable (m : (ℓ : Loc nD τ sig) → Buf (Elt F) ℓ) (ρ : Dev nD → PrngReg)

/-- The two rows of the result of device `c` on half `h`. -/
def res (c : Dev nD) (r h : Fin 2) : FVec F S1x256 .f32 :=
  match r with
  | 0 => combVal (part m ρ c h) (part m ρ (writer 0 c) h) (part m ρ (writer 1 c) h) (part m ρ (writer 2 c) h)
  | 1 => combIdx (part m ρ c h) (part m ρ (writer 0 c) h) (part m ρ (writer 1 c) h) (part m ρ (writer 2 c) h)

theorem half_lt (i : S2x512.Idx) : (i 1).val / 256 < 2 := by have : (i 1).val < 512 := (i 1).isLt; omega

/-- Four 1 × 256 rows set side by side as a 2 × 512 block. -/
def sideBySide (w : Fin 2 → Fin 2 → FVec F S1x256 .f32) : (cc0_stg1_0 : Ref sig .tc).ty.Contents (Elt F) :=
  fun i : S2x512.Idx => w (i 0) ⟨(i 1).val / 256, half_lt i⟩ (ix2 (0 : Fin 1) ⟨(i 1).val % 256, Nat.mod_lt _ (by decide)⟩)

/-- The result of device `c`. -/
def outAt (c : Dev nD) : (cc0_stg1_0 : Ref sig .tc).ty.Contents (Elt F) := sideBySide (res m ρ c)

/-- Storing a row of one half changes that row of that half only. -/
theorem write_row (r h : Fin 2) (f : (cc0_stg1_0 : Ref sig .tc).ty.Contents (Elt F)) (w : FVec F S1x256 .f32) (i : S2x512.Idx) :
    (oM.access (outR r h)).write (Elt F) f w Finset.univ i
      = if (i 0).val = r.val ∧ (i 1).val / 256 = h.val then w (ix2 (0 : Fin 1) ⟨(i 1).val % 256, Nat.mod_lt _ (by decide)⟩) else f i := by
  by_cases hi : (i 0).val = r.val ∧ (i 1).val / 256 = h.val
  · rw [if_pos hi]
    have he : i = (oM.access (outR r h)).emb (ix2 (0 : Fin 1) (⟨(i 1).val % 256, Nat.mod_lt _ (by decide)⟩ : Fin 256)) := by
      funext a
      refine Fin.ext ?_
      match a with
      | ⟨0, _⟩ =>
        change (i 0).val = r.val + 1 * 0
        omega
      | ⟨1, _⟩ =>
        change (i 1).val = 256 * h.val + 1 * ((i 1).val % 256)
        omega
    conv_lhs => rw [he]
    rw [View.write_emb_of_mem _ _ (Finset.mem_univ _)]
    rfl
  · rw [if_neg hi]
    refine View.write_of_not_mem _ _ _ fun hm => hi ?_
    have hm' : i ∈ (outR r h).toLoadRect.set := by
      have e : (oM.access (outR r h)).set = (outR r h).set := View.set_slice_whole _ _
      exact e ▸ hm
    have hm2 := Rect.mem_set_unit.mp hm'
    have a0 := hm2 0
    have a1 := hm2 1
    change r.val ≤ (i 0).val ∧ (i 0).val < r.val + 1 at a0
    change 256 * h.val ≤ (i 1).val ∧ (i 1).val < 256 * h.val + 256 at a1
    exact ⟨by omega, by omega⟩

theorem pick_row (x y : Fin 2) (w : Fin 2 → Fin 2 → FVec F S1x256 .f32) (j : S1x256.Idx) (v : Elt F .f32) :
    (if x.val = (1 : Fin 2).val ∧ y.val = (1 : Fin 2).val then w 1 1 j
      else if x.val = (0 : Fin 2).val ∧ y.val = (1 : Fin 2).val then w 0 1 j
      else if x.val = (1 : Fin 2).val ∧ y.val = (0 : Fin 2).val then w 1 0 j
      else if x.val = (0 : Fin 2).val ∧ y.val = (0 : Fin 2).val then w 0 0 j else v) = w x y j := by
  have h0 : ∀ y : Fin 2, y = 0 ∨ y = 1 := by decide
  rcases h0 x with rfl | rfl <;> rcases h0 y with rfl | rfl <;> rfl

/-- The four rows stored, in the kernel's order, are all of the output. -/
theorem write_rows (f : (cc0_stg1_0 : Ref sig .tc).ty.Contents (Elt F)) (w : Fin 2 → Fin 2 → FVec F S1x256 .f32) :
    (oM.access (outR 1 1)).write (Elt F) ((oM.access (outR 0 1)).write (Elt F) ((oM.access (outR 1 0)).write (Elt F)
      ((oM.access (outR 0 0)).write (Elt F) f (w 0 0) Finset.univ) (w 1 0) Finset.univ) (w 0 1) Finset.univ) (w 1 1) Finset.univ
      = sideBySide w := by
  funext i
  rw [write_row, write_row, write_row, write_row]
  exact pick_row (i 0) ⟨(i 1).val / 256, half_lt i⟩ w _ _

end Cert.ArgMax

end
-- ==== Proof.Body.lean ====
/-
# The kernel's body, run from its first operation to its last

Starting from its own thirteen semaphores' positions, the tokens for what it has to pay, its eight pieces of the
communication buffer and its two staging buffers, a device reaches the end of the body with every piece and every
semaphore its own again, the output staging buffer holding the combined result.
-/
module

public import proofs.«01_k».proof.Proof.Access

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## Families written out -/

theorem cells_list (Φ : Cell → sProp 𝕄) : bigSep Finset.univ Φ
    = iprop(Φ .bar ∗ Φ (.send 0 0) ∗ Φ (.send 0 1) ∗ Φ (.send 0 2) ∗ Φ (.send 1 0) ∗ Φ (.send 1 1) ∗ Φ (.send 1 2)
        ∗ Φ (.recv 0 0) ∗ Φ (.recv 0 1) ∗ Φ (.recv 0 2) ∗ Φ (.recv 1 0) ∗ Φ (.recv 1 1) ∗ Φ (.recv 1 2)) := by
  rw [bigSep_univ_eq_bigSepL allCells (Finset.ext fun k => by simp [mem_allCells]) allCells_nodup]
  unfold allCells
  simp only [bigSepL_cons_cons, bigSepL_singleton]
  rfl
theorem copies_list (Φ : Fin 2 × Fin 3 → sProp 𝕄) : bigSep Finset.univ Φ
    = iprop(Φ (0, 0) ∗ Φ (0, 1) ∗ Φ (0, 2) ∗ Φ (1, 0) ∗ Φ (1, 1) ∗ Φ (1, 2)) := by
  rw [bigSep_univ_eq_bigSepL [(0, 0), (0, 1), (0, 2), (1, 0), (1, 1), (1, 2)] (by decide) (by decide)]
  simp only [bigSepL_cons_cons, bigSepL_singleton]
  rfl
theorem peers_list (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]
  rfl
theorem pieces_list (Φ : Fin 4 × Fin 2 → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1)) := by
  rw [bigSep_univ_eq_bigSepL [(0, 0), (0, 1), (1, 0), (1, 1), (2, 0), (2, 1), (3, 0), (3, 1)] (by decide) (by decide)]
  simp only [bigSepL_cons_cons, bigSepL_singleton]
  rfl

/-! ## What a device starts the body from, and ends it with -/

/-- The tokens of everything device `c` pays: its units to the three other barriers, both ends of its six copies. -/
def tokens (c : Dev nD) : sProp 𝕄 :=
  iprop((bigSep Finset.univ fun t : Fin 3 => dutyTok EX (kcell (writer t c, .bar)) 0 t)
    ∗ (bigSep Finset.univ fun p : Fin 2 × Fin 3 => dutyTok EX (kcell (c, .send p.1 p.2)) 0 0)
    ∗ (bigSep Finset.univ fun p : Fin 2 × Fin 3 => dutyTok EX (kcell (target p.2 c, .recv p.1 p.2)) 0 0))

/-- What it starts from beside its buffers. -/
def ghost (c : Dev nD) : sProp 𝕄 :=
  iprop(records m ρ K ∗ (bigSep Finset.univ fun k : Cell => atPos EX (kcell (c, k)) 0 ∅ 0) ∗ tokens c)
/-- What the others owe it. -/
def credits (c : Dev nD) : sProp 𝕄 :=
  iprop(cred (tallyAt (kcell (c, .bar)) () 3) ∗ bigSep Finset.univ fun p : Fin 2 × Fin 3 => cred (tallyAt (kcell (c, .recv p.1 p.2)) () N))
/-- All eight pieces of its communication buffer. -/
def pieces (c : Dev nD) : sProp 𝕄 := bigSep Finset.univ fun p : Fin 4 × Fin 2 => slotAny c p.1 p.2
/-- All thirteen semaphores at zero, closed. -/
def closed (c : Dev nD) : sProp 𝕄 := bigSep Finset.univ fun k : Cell => semVal (kcell (c, k)) 0

/-- One staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The operations, once more, on the values of this kernel -/

theorem run_load_half (c : Dev nD) (h : Fin 2) (f : (cc0_stg0_0 : Ref sig .tc).ty.Contents (Elt F))
    {hl : xM.view.LoadsAt (halfR h).toLoadRect} {α : Type} {Q : α → sProp 𝕄}
    {k : Vec F S512x256 .f32 → Prog (TpuEff nD τ sig (Elt F) Λ₀ .tc) α} :
    (((c : Thread nD τ).loc cc0_stg0_0) ↦{fullShare} f)
      ⊢ iprop(((((c : Thread nD τ).loc cc0_stg0_0) ↦{fullShare} f) -∗ run c (k (half f h)) Q)
          -∗ run c (.op (.load xM (halfR h).toLoadRect hl) k) Q) :=
  wp_load 𝒱₀ (c : Thread nD τ) none Set.univ (m := xM) (Finset.subset_univ _)

theorem run_load_out (c : Dev nD) (r h : Fin 2) (f : (cc0_stg1_0 : Ref sig .tc).ty.Contents (Elt F))
    {hl : oM.view.LoadsAt (outR r h).toLoadRect} {α : Type} {Q : α → sProp 𝕄}
    {p : Prog (TpuEff nD τ sig (Elt F) Λ₀ .tc) α} :
    (((c : Thread nD τ).loc cc0_stg1_0) ↦{fullShare} f)
      ⊢ iprop(((((c : Thread nD τ).loc cc0_stg1_0) ↦{fullShare} f) -∗ run c p Q)
          -∗ run c (.op (.load oM (outR r h).toLoadRect hl) fun _ => p) Q) :=
  wp_load 𝒱₀ (c : Thread nD τ) none Set.univ (m := oM) (k := fun _ => p) (Finset.subset_univ _)

theorem run_store_out (c : Dev nD) (r h : Fin 2) (f : (cc0_stg1_0 : Ref sig .tc).ty.Contents (Elt F)) (w : FVec F S1x256 .f32)
    {hx : (oM.access (outR r h)).Stores Finset.univ} {hm : (Finset.univ : Finset (outR r h).shape.Idx) = Finset.univ ∨ ∀ a, (outR r h).stride a = 1}
    {α : Type} {Q : α → sProp 𝕄} {k : PUnit → Prog (TpuEff nD τ sig (Elt F) Λ₀ .tc) α} :
    (((c : Thread nD τ).loc cc0_stg1_0) ↦{fullShare} f)
      ⊢ iprop(((((c : Thread nD τ).loc cc0_stg1_0) ↦{fullShare} (oM.access (outR r h)).write (Elt F) f w Finset.univ) -∗ run c (k ⟨⟩) Q)
          -∗ run c (.op (.store oM (outR r h) w Finset.univ hx hm) k) Q) :=
  wp_store 𝒱₀ (c : Thread nD τ) none Set.univ (m := oM) (r := outR r h) (Mk := Finset.univ) (Finset.subset_univ _)

/-- The partial result stored in slot 0 is there in four quarters. -/
theorem run_store_part (c : Dev nD) (h : Fin 2) (w : Vec F S1x2x256 .f32) (hw : shapeCast S2x256 w shapeCasts_S1x2x256_S2x256 = part m ρ c h)
    {hx : (bM.access (slotR 0 h)).Stores Finset.univ} {hm : (Finset.univ : Finset (slotR 0 h).shape.Idx) = Finset.univ ∨ ∀ a, (slotR 0 h).stride a = 1}
    {α : Type} {Q : α → sProp 𝕄} {k : PUnit → Prog (TpuEff nD τ sig (Elt F) Λ₀ .tc) α} :
    slotAny c 0 h ⊢ iprop((((slotAt c 0 h (quarter 0) (part m ρ c h) ∗ slotAt c 0 h (quarter 1) (part m ρ c h))
        ∗ (slotAt c 0 h (quarter 2) (part m ρ c h) ∗ slotAt c 0 h kept (part m ρ c h))) -∗ run c (k ⟨⟩) Q)
      -∗ run c (.op (.store bM (slotR 0 h) w Finset.univ hx hm) k) Q) := by
  iintro H Hk
  iapply (run_store_slot c 0 h w) $$ H
  iintro H
  iapply Hk
  rw [hw]
  iapply (slot_quarters c 0 h (part m ρ c h)).1
  iexact H
/-- The four quarters, once the copies reading three of them are done, are slot 0 again. -/
theorem slot_rejoin (c : Dev nD) (h : Fin 2) :
    BIBase.Entails iprop((slotAt c 0 h (quarter 0) (part m ρ c h) ∗ slotAt c 0 h (quarter 1) (part m ρ c h))
        ∗ (slotAt c 0 h (quarter 2) (part m ρ c h) ∗ slotAt c 0 h kept (part m ρ c h))) (slotAny c 0 h) :=
  BIBase.Entails.trans (slot_quarters c 0 h (part m ρ c h)).2 (slotAny_of_at c 0 h _)
theorem whole_out (c : Dev nD) {f g : (cc0_stg1_0 : Ref sig .tc).ty.Contents (Elt F)} (h : f = g) :
    BIBase.Entails (PROP := sProp 𝕄) (((c : Thread nD τ).loc cc0_stg1_0) ↦{fullShare} f) (((c : Thread nD τ).loc cc0_stg1_0) ↦{fullShare} g) := by
  subst h; exact BIBase.Entails.refl

theorem payOf_send (c : Dev nD) (h : Fin 2) (t : Fin 3) :
    BIBase.Entails (payOf m ρ c (.send h t) 0) (slotAt c 0 h (quarter t) (part m ρ c h)) := BIBase.Entails.refl
theorem payOf_recv (c : Dev nD) (h : Fin 2) (t : Fin 3) (s : Fin 4) (hs : t.succ = s) :
    BIBase.Entails (payOf m ρ c (.recv h t) 0) (slotAt c s h fullShare (part m ρ (writer t c) h)) := by
  subst hs; exact BIBase.Entails.refl

/-! ## The whole body -/

set_option maxHeartbeats 4000000 in
/-- From its buffers, tokens and credits, device `c` runs the body to the end: three signals and the wait on its own
    barrier; each half's partial result stored and sent three times; each half's three arrivals awaited, combined and
    written out; the six sends awaited. -/
theorem sound_body (c : Dev nD) (g : (cc0_stg1_0 : Ref sig .tc).ty.Contents (Elt F)) (Kt : PUnit → sProp 𝕄) :
    iprop((ghost m ρ K c ∗ credits c ∗ levAts L lv ∗ pieces c)
        ∗ owing c (debt (dues c))
        ∗ (((c : Thread nD τ).loc cc0_stg0_0) ↦{fullShare} xstg m ρ c)
        ∗ (((c : Thread nD τ).loc cc0_stg1_0) ↦{fullShare} g)
        ∗ ((pieces c ∗ closed c ∗ owing c 0 ∗ (((c : Thread nD τ).loc cc0_stg0_0) ↦{fullShare} xstg m ρ c)
            ∗ (((c : Thread nD τ).loc cc0_stg1_0) ↦{fullShare} outAt m ρ c)) -∗ Kt ⟨⟩))
      ⊢ run c ((cc0_body xM (Memref.isWhole_whole _) oM (Memref.isWhole_whole _) bM (Memref.isWhole_whole _) cc0_scratch1 cc0_scratch2) : Prog (TpuEff nD τ sig (Elt F) Λ₀ .tc) PUnit) Kt := by
  unfold ghost credits tokens pieces closed
  simp only [cells_list, copies_list, peers_list, pieces_list, cc0_body_eq_skeleton]
  iintro ⟨⟨⟨#HR, ⟨HaB, HaS00, HaS01, HaS02, HaS10, HaS11, HaS12, HaV00, HaV01, HaV02, HaV10, HaV11, HaV12⟩,
      ⟨HtB0, HtB1, HtB2⟩, ⟨HtS00, HtS01, HtS02, HtS10, HtS11, HtS12⟩, ⟨HtV00, HtV01, HtV02, HtV10, HtV11, HtV12⟩⟩,
      ⟨HcB, HcV00, HcV01, HcV02, HcV10, HcV11, HcV12⟩, #Hlev, ⟨Hb00, Hb01, Hb10, Hb11, Hb20, Hb21, Hb30, Hb31⟩⟩, HO, Hx, Ho, HK⟩
  unfold cc0_body_skel
  rw [k0_part1_eq_skeleton]; simp only [k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel
    k0_part10_skel k0_part11_skel k0_part12_skel
  simp only [semSignalWord, semWaitWord, Prog.lift, Prog.bind_op, Prog.bind_ret, Prog.pure_eq_ret, wp_deviceId]
  iapply (run_signal m ρ K c _ 0 (dev1_eq c) ((dues c).drop 1 : List (Dev nD × Cell)) rfl) $$ [HO HtB0 Hb10 Hb11]
  · isplitr; · iexact HR
    isplitl [HO]; · iexact HO
    isplitl [HtB0]; · iexact HtB0
    isplitl [Hb10]; · iexact Hb10
    iexact Hb11
  iintro HO
  iapply (run_signal m ρ K c _ 1 (dev2_eq c) ((dues c).drop 2 : List (Dev nD × Cell)) rfl) $$ [HO HtB1 Hb20 Hb21]
  · isplitr; · iexact HR
    isplitl [HO]; · iexact HO
    isplitl [HtB1]; · iexact HtB1
    isplitl [Hb20]; · iexact Hb20
    iexact Hb21
  iintro HO
  iapply (run_signal m ρ K c _ 2 (dev3_eq c) ((dues c).drop 3 : List (Dev nD × Cell)) rfl) $$ [HO HtB2 Hb30 Hb31]
  · isplitr; · iexact HR
    isplitl [HO]; · iexact HO
    isplitl [HtB2]; · iexact HtB2
    isplitl [Hb30]; · iexact Hb30
    iexact Hb31
  iintro HO
  iapply (run_wait_bar m ρ K c ((dues c).drop 3) (by intro p hp; simp only [dues, List.drop_succ_cons, List.drop_zero, List.mem_cons, List.not_mem_nil, _root_.or_false] at hp; rcases hp with rfl | rfl | rfl | rfl | rfl | rfl <;> exact Nat.lt_succ_self 1) rfl) $$ [HcB HO HaB]
  · isplitr; · iexact HR
    isplitl [HcB]; · iexact HcB
    isplitl [HO]; · iexact HO
    isplitr; · iexact Hlev
    iexact HaB
  iintro ⟨HO, HzB, Hp⟩
  simp only [peers_list, payOf_bar]
  icases Hp with ⟨⟨Hd00, Hd01⟩, ⟨Hd10, Hd11⟩, Hd20, Hd21⟩
  iapply (run_load_half c 0 (xstg m ρ c)) $$ Hx; iintro Hx
  iapply (run_load_slot c 0 0) $$ Hb00; iintro Hb00
  iapply (run_store_part m ρ c 0 _ rfl) $$ Hb00; iintro ⟨⟨Hq00, Hq01⟩, Hq02, Hk0⟩
  iapply (run_copy m ρ K c _ 0 2 (dev4_eq c) ((dues c).drop 4)) $$ [Hq02 Hd20 HO HtS02 HtV02]
  · isplitr; · iexact HR
    isplitl [Hq02]; · iexact Hq02
    isplitl [Hd20]; · iexact Hd20
    isplitl [HO]; · iexact HO
    isplitl [HtS02] <;> iassumption
  iintro ⟨HcS02, HO⟩
  iapply (run_copy m ρ K c _ 0 1 (dev5_eq c) ((dues c).drop 5)) $$ [Hq01 Hd10 HO HtS01 HtV01]
  · isplitr; · iexact HR
    isplitl [Hq01]; · iexact Hq01
    isplitl [Hd10]; · iexact Hd10
    isplitl [HO]; · iexact HO
    isplitl [HtS01] <;> iassumption
  iintro ⟨HcS01, HO⟩
  iapply (run_copy m ρ K c _ 0 0 (dev6_eq c) ((dues c).drop 6)) $$ [Hq00 Hd00 HO HtS00 HtV00]
  · isplitr; · iexact HR
    isplitl [Hq00]; · iexact Hq00
    isplitl [Hd00]; · iexact Hd00
    isplitl [HO]; · iexact HO
    isplitl [HtS00] <;> iassumption
  iintro ⟨HcS00, HO⟩
  iapply (run_load_half c 1 (xstg m ρ c)) $$ Hx; iintro Hx
  iapply (run_load_slot c 0 1) $$ Hb01; iintro Hb01
  iapply (run_store_part m ρ c 1 _ rfl) $$ Hb01; iintro ⟨⟨Hq10, Hq11⟩, Hq12, Hk1⟩
  iapply (run_copy m ρ K c _ 1 2 (dev7_eq c) ((dues c).drop 7)) $$ [Hq12 Hd21 HO HtS12 HtV12]
  · isplitr; · iexact HR
    isplitl [Hq12]; · iexact Hq12
    isplitl [Hd21]; · iexact Hd21
    isplitl [HO]; · iexact HO
    isplitl [HtS12] <;> iassumption
  iintro ⟨HcS12, HO⟩
  iapply (run_copy m ρ K c _ 1 1 (dev8_eq c) ((dues c).drop 8)) $$ [Hq11 Hd11 HO HtS11 HtV11]
  · isplitr; · iexact HR
    isplitl [Hq11]; · iexact Hq11
    isplitl [Hd11]; · iexact Hd11
    isplitl [HO]; · iexact HO
    isplitl [HtS11] <;> iassumption
  iintro ⟨HcS11, HO⟩
  iapply (run_copy m ρ K c _ 1 0 (dev9_eq c) ((dues c).drop 9)) $$ [Hq10 Hd01 HO HtS10 HtV10]
  · isplitr; · iexact HR
    isplitl [Hq10]; · iexact Hq10
    isplitl [Hd01]; · iexact Hd01
    isplitl [HO]; · iexact HO
    isplitl [HtS10] <;> iassumption
  iintro ⟨HcS10, HO⟩
  iapply (run_wait_copy m ρ K c (.recv 0 2) _ rfl rfl rfl (N_eq 3 0)) $$ [HcV02 HO HaV02]
  · isplitr; · iexact HR
    isplitl [HcV02]; · iexact HcV02
    isplitl [HO]; · iexact HO
    iexact HaV02
  iintro ⟨HO, HzV02, Hb30⟩
  ihave Hb30 := (payOf_recv m ρ c 0 2 3 rfl) $$ Hb30
  iapply (run_wait_copy m ρ K c (.recv 0 1) _ rfl rfl rfl (N_eq 2 0)) $$ [HcV01 HO HaV01]
  · isplitr; · iexact HR
    isplitl [HcV01]; · iexact HcV01
    isplitl [HO]; · iexact HO
    iexact HaV01
  iintro ⟨HO, HzV01, Hb20⟩
  ihave Hb20 := (payOf_recv m ρ c 0 1 2 rfl) $$ Hb20
  iapply (run_wait_copy m ρ K c (.recv 0 0) _ rfl rfl rfl (N_eq 1 0)) $$ [HcV00 HO HaV00]
  · isplitr; · iexact HR
    isplitl [HcV00]; · iexact HcV00
    isplitl [HO]; · iexact HO
    iexact HaV00
  iintro ⟨HO, HzV00, Hb10⟩
  ihave Hb10 := (payOf_recv m ρ c 0 0 1 rfl) $$ Hb10
  iapply (run_load_row c 0 0 0 kept (part m ρ c 0)) $$ Hk0; iintro Hk0
  iapply (run_load_row c 0 1 0 kept (part m ρ c 0)) $$ Hk0; iintro Hk0
  iapply (run_load_row c 1 0 0 fullShare (part m ρ (writer 0 c) 0)) $$ Hb10; iintro Hb10
  iapply (run_load_row c 1 1 0 fullShare (part m ρ (writer 0 c) 0)) $$ Hb10; iintro Hb10
  iapply (run_load_row c 2 0 0 fullShare (part m ρ (writer 1 c) 0)) $$ Hb20; iintro Hb20
  iapply (run_load_row c 2 1 0 fullShare (part m ρ (writer 1 c) 0)) $$ Hb20; iintro Hb20
  iapply (run_load_row c 3 0 0 fullShare (part m ρ (writer 2 c) 0)) $$ Hb30; iintro Hb30
  iapply (run_load_row c 3 1 0 fullShare (part m ρ (writer 2 c) 0)) $$ Hb30; iintro Hb30
  iapply (run_load_out c 0 0) $$ Ho; iintro Ho
  iapply (run_store_out c 0 0) $$ Ho; iintro Ho
  iapply (run_load_out c 1 0) $$ Ho; iintro Ho
  iapply (run_store_out c 1 0) $$ Ho; iintro Ho
  iapply (run_wait_copy m ρ K c (.recv 1 2) _ rfl rfl rfl (N_eq 3 1)) $$ [HcV12 HO HaV12]
  · isplitr; · iexact HR
    isplitl [HcV12]; · iexact HcV12
    isplitl [HO]; · iexact HO
    iexact HaV12
  iintro ⟨HO, HzV12, Hb31⟩
  ihave Hb31 := (payOf_recv m ρ c 1 2 3 rfl) $$ Hb31
  iapply (run_wait_copy m ρ K c (.recv 1 1) _ rfl rfl rfl (N_eq 2 1)) $$ [HcV11 HO HaV11]
  · isplitr; · iexact HR
    isplitl [HcV11]; · iexact HcV11
    isplitl [HO]; · iexact HO
    iexact HaV11
  iintro ⟨HO, HzV11, Hb21⟩
  ihave Hb21 := (payOf_recv m ρ c 1 1 2 rfl) $$ Hb21
  iapply (run_wait_copy m ρ K c (.recv 1 0) _ rfl rfl rfl (N_eq 1 1)) $$ [HcV10 HO HaV10]
  · isplitr; · iexact HR
    isplitl [HcV10]; · iexact HcV10
    isplitl [HO]; · iexact HO
    iexact HaV10
  iintro ⟨HO, HzV10, Hb11⟩
  ihave Hb11 := (payOf_recv m ρ c 1 0 1 rfl) $$ Hb11
  iapply (run_load_row c 0 0 1 kept (part m ρ c 1)) $$ Hk1; iintro Hk1
  iapply (run_load_row c 0 1 1 kept (part m ρ c 1)) $$ Hk1; iintro Hk1
  iapply (run_load_row c 1 0 1 fullShare (part m ρ (writer 0 c) 1)) $$ Hb11; iintro Hb11
  iapply (run_load_row c 1 1 1 fullShare (part m ρ (writer 0 c) 1)) $$ Hb11; iintro Hb11
  iapply (run_load_row c 2 0 1 fullShare (part m ρ (writer 1 c) 1)) $$ Hb21; iintro Hb21
  iapply (run_load_row c 2 1 1 fullShare (part m ρ (writer 1 c) 1)) $$ Hb21; iintro Hb21
  iapply (run_load_row c 3 0 1 fullShare (part m ρ (writer 2 c) 1)) $$ Hb31; iintro Hb31
  iapply (run_load_row c 3 1 1 fullShare (part m ρ (writer 2 c) 1)) $$ Hb31; iintro Hb31
  iapply (run_load_out c 0 1) $$ Ho; iintro Ho
  iapply (run_store_out c 0 1) $$ Ho; iintro Ho
  iapply (run_load_out c 1 1) $$ Ho; iintro Ho
  iapply (run_store_out c 1 1) $$ Ho; iintro Ho
  iapply (run_wait_copy m ρ K c (.send 0 2) _ rfl rfl rfl (N_eq 0 0)) $$ [HcS02 HO HaS02]
  · isplitr; · iexact HR
    isplitl [HcS02]; · iexact HcS02
    isplitl [HO]; · iexact HO
    iexact HaS02
  iintro ⟨HO, HzS02, Hq02⟩
  ihave Hq02 := (payOf_send m ρ c 0 2) $$ Hq02
  iapply (run_wait_copy m ρ K c (.send 0 1) _ rfl rfl rfl (N_eq 0 0)) $$ [HcS01 HO HaS01]
  · isplitr; · iexact HR
    isplitl [HcS01]; · iexact HcS01
    isplitl [HO]; · iexact HO
    iexact HaS01
  iintro ⟨HO, HzS01, Hq01⟩
  ihave Hq01 := (payOf_send m ρ c 0 1) $$ Hq01
  iapply (run_wait_copy m ρ K c (.send 0 0) _ rfl rfl rfl (N_eq 0 0)) $$ [HcS00 HO HaS00]
  · isplitr; · iexact HR
    isplitl [HcS00]; · iexact HcS00
    isplitl [HO]; · iexact HO
    iexact HaS00
  iintro ⟨HO, HzS00, Hq00⟩
  ihave Hq00 := (payOf_send m ρ c 0 0) $$ Hq00
  iapply (run_wait_copy m ρ K c (.send 1 2) _ rfl rfl rfl (N_eq 0 1)) $$ [HcS12 HO HaS12]
  · isplitr; · iexact HR
    isplitl [HcS12]; · iexact HcS12
    isplitl [HO]; · iexact HO
    iexact HaS12
  iintro ⟨HO, HzS12, Hq12⟩
  ihave Hq12 := (payOf_send m ρ c 1 2) $$ Hq12
  iapply (run_wait_copy m ρ K c (.send 1 1) _ rfl rfl rfl (N_eq 0 1)) $$ [HcS11 HO HaS11]
  · isplitr; · iexact HR
    isplitl [HcS11]; · iexact HcS11
    isplitl [HO]; · iexact HO
    iexact HaS11
  iintro ⟨HO, HzS11, Hq11⟩
  ihave Hq11 := (payOf_send m ρ c 1 1) $$ Hq11
  iapply (run_wait_copy m ρ K c (.send 1 0) _ rfl rfl rfl (N_eq 0 1)) $$ [HcS10 HO HaS10]
  · isplitr; · iexact HR
    isplitl [HcS10]; · iexact HcS10
    isplitl [HO]; · iexact HO
    iexact HaS10
  iintro ⟨HO, HzS10, Hq10⟩
  ihave Hq10 := (payOf_send m ρ c 1 0) $$ Hq10
  unfold run; rw [wp_ret]; imodintro
  iapply HK
  isplitl [Hq00 Hq01 Hq02 Hk0 Hq10 Hq11 Hq12 Hk1 Hb10 Hb11 Hb20 Hb21 Hb30 Hb31]
  · isplitl [Hq00 Hq01 Hq02 Hk0]
    · iapply (slot_rejoin m ρ c 0); isplitl [Hq00 Hq01]
      · isplitl [Hq00]; · iexact Hq00
        iexact Hq01
      · isplitl [Hq02]; · iexact Hq02
        iexact Hk0
    isplitl [Hq10 Hq11 Hq12 Hk1]
    · iapply (slot_rejoin m ρ c 1); isplitl [Hq10 Hq11]
      · isplitl [Hq10]; · iexact Hq10
        iexact Hq11
      · isplitl [Hq12]; · iexact Hq12
        iexact Hk1
    isplitl [Hb10]; · iapply (slotAny_of_at c 1 0 _); iexact Hb10
    isplitl [Hb11]; · iapply (slotAny_of_at c 1 1 _); iexact Hb11
    isplitl [Hb20]; · iapply (slotAny_of_at c 2 0 _); iexact Hb20
    isplitl [Hb21]; · iapply (slotAny_of_at c 2 1 _); iexact Hb21
    isplitl [Hb30]; · iapply (slotAny_of_at c 3 0 _); iexact Hb30
    iapply (slotAny_of_at c 3 1 _); iexact Hb31
  isplitl [HzB HzS00 HzS01 HzS02 HzS10 HzS11 HzS12 HzV00 HzV01 HzV02 HzV10 HzV11 HzV12]
  · isplitl [HzB]; · iexact HzB
    isplitl [HzS00]; · iexact HzS00
    isplitl [HzS01]; · iexact HzS01
    isplitl [HzS02]; · iexact HzS02
    isplitl [HzS10]; · iexact HzS10
    isplitl [HzS11]; · iexact HzS11
    isplitl [HzS12]; · iexact HzS12
    isplitl [HzV00]; · iexact HzV00
    isplitl [HzV01]; · iexact HzV01
    isplitl [HzV02]; · iexact HzV02
    isplitl [HzV10]; · iexact HzV10
    isplitl [HzV11]; · iexact HzV11
    iexact HzV12
  isplitl [HO]; · iexact HO
  isplitl [Hx]; · iexact Hx
  iapply (whole_out c (write_rows g (res m ρ c))); iexact Ho

end Cert.ArgMax

end
-- ==== Proof.Launch.lean ====
/-
# The launch: every device set up, every device run

The communication buffer is cut into its eight pieces and put together again; every device gets its own semaphores'
positions, and the tokens are dealt to whoever pays with them; then the whole program runs on all four devices, for any
float values.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The communication buffer and its eight pieces -/

theorem slotAny_of (s : Fin 4) (h : Fin 2) (c : Dev nD) (f : Buf (Elt F) ((c : Thread nD τ).loc cc0_scratch0)) :
    BIBase.Entails (PROP := sProp 𝕄) (((c : Thread nD τ).loc cc0_scratch0) ↦[(slotM s h).view.set]{fullShare} f) (slotAny c s h) := by
  unfold slotAny
  iintro H; iexists f; iexact H

theorem scratch_split (c : Dev nD) (f : Buf (Elt F) ((c : Thread nD τ).loc cc0_scratch0)) :
    BIBase.Entails (PROP := sProp 𝕄) (((c : Thread nD τ).loc cc0_scratch0) ↦{fullShare} f) (pieces c) := by
  unfold pieces
  rw [← slots_cover, pointsTo_biUnion _ _ fun p _ q _ h => slots_disjoint p q h]
  exact bigSep_mono fun p _ => slotAny_of p.1 p.2 c f

theorem scratch_join (c : Dev nD) :
    BIBase.Entails (PROP := sProp 𝕄) (pieces c) iprop(∃ f : Buf (Elt F) ((c : Thread nD τ).loc cc0_scratch0), ((c : Thread nD τ).loc cc0_scratch0) ↦{fullShare} f) := by
  unfold pieces slotAny
  iintro H
  ihave H := (BI.bigSep_exists_pi Finset.univ (fun (p : Fin 4 × Fin 2) (f : Buf (Elt F) ((c : Thread nD τ).loc cc0_scratch0)) =>
    (((slotM p.1 p.2).view.loc (c : Thread nD τ)) ↦[(slotM p.1 p.2).view.set]{fullShare} f : sProp 𝕄))) $$ H
  icases H with ⟨%fs, H⟩
  ihave H := (pointsTo_biUnion_join (ℓ := (c : Thread nD τ).loc cc0_scratch0) Finset.univ (fun p : Fin 4 × Fin 2 => (slotM p.1 p.2).view.set) fs (fs (0, 0))
    fun p _ q _ h => slots_disjoint p q h) $$ H
  rw [slots_cover]
  icases H with ⟨%g, -, H⟩
  iexists g; iexact H

/-! ## What a device starts from, before and after the one grid point -/

def start (c : Dev nD) : sProp 𝕄 := iprop((∃ K, ghost m ρ K c) ∗ credits c ∗ levAts L lv)
def Φ₀ (c : Dev nD) : sProp 𝕄 := iprop(start m ρ c ∗ ∃ f : Buf (Elt F) ((c : Thread nD τ).loc cc0_scratch0), ((c : Thread nD τ).loc cc0_scratch0) ↦{fullShare} f)
def Φ₁ (c : Dev nD) : sProp 𝕄 := iprop(pieces c ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => debt (dues c)
    | ⟨_ + 1, _⟩ => 0

theorem fetch_x (t : Fin cfg0.N) : (cfg0.win (0 : Fin 2)).fetch t = true := by rw [fin_N0 t]; rfl

theorem owns_staging (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- What the body is handed at the grid point, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it hands back. -/
def bodyPost (c : Dev nD) : sProp 𝕄 :=
  iprop(Φ₁ c ∗ (dats m ρ 0 c).owesAt () t0_0.succ ∗ stg c cc0_stg0_0 (xstg m ρ c) ∗ stg c cc0_stg1_0 (outAt m ρ c))

theorem body_obligation (c : Dev nD) : BodyObligation (dats (F := F) m ρ 0 c) (defs₀ (F := F)) 𝒱₀ () Set.univ := fun t => by
  rw [fin_N0 t]
  rw [bigSep_W0, bigSep_W0]
  simp only [owns_staging]
  show bodyPre m ρ c ⊢ run c (cc0_body xM (Memref.isWhole_whole _) oM (Memref.isWhole_whole _) bM (Memref.isWhole_whole _) cc0_scratch1 cc0_scratch2) fun _ => bodyPost m ρ c
  unfold bodyPre Φ₀ start stg
  iintro ⟨⟨⟨⟨%K, Hg⟩, Hcr, Hlev⟩, ⟨%fs, Hs⟩⟩, HO, ⟨%d0, %g0, %hg0, Hx⟩, ⟨%d1, %g1, %hg1, Ho⟩⟩
  have hx : g0 = xstg m ρ c := by rw [hg0]; unfold Dat.before; rw [if_pos (fetch_x t0_0)]; rfl
  subst hx
  unfold Dat.owesAt Pipeline.owesWithin
  icases HO with ⟨%W, %hW, HO⟩
  rw [show (dats m ρ 0 c).owed t0_0.castSucc = debt (dues c) from rfl]
  iapply (sound_body m ρ K c g1 fun _ => bodyPost m ρ c)
  isplitl [Hg Hcr Hlev Hs]
  · isplitl [Hg]; · iexact Hg
    isplitl [Hcr]; · iexact Hcr
    isplitl [Hlev]; · iexact Hlev
    iapply (scratch_split c fs); iexact Hs
  isplitl [HO]; · unfold owing; iexists W; iexact HO
  isplitl [Hx]; · iexact Hx
  isplitl [Ho]; · iexact Ho
  unfold bodyPost Φ₁ stg owing Dat.owesAt Pipeline.owesWithin
  iintro ⟨Hp, Hz, ⟨%W', HO⟩, Hx, Ho⟩
  rw [show (dats m ρ 0 c).owed t0_0.succ = 0 from rfl]
  isplitl [Hp Hz]
  · isplitl [Hp]; · iexact Hp
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-! ## The kernel's own semaphores -/

/-- The twelve the kernel declares: six for sends, six for arrivals. -/
abbrev osem : (Fin 2 × Fin 3) ⊕ (Fin 2 × Fin 3) → SemLoc sig
  | .inl p => .dma (sendS p.1 p.2)
  | .inr p => .dma (recvS p.1 p.2)
theorem ownSemFacts : Pipeline.OwnSemFacts cfg0.spec osem := by decide +kernel

theorem share_eq (c : Dev nD) (w : Fin cfg0.W) : (dats m ρ 0 c).share w = fullShare := by unfold Dat.share; split <;> rfl

/-- A family over the thirteen, by kinds. -/
theorem cells_by_kind (Φ : Cell → sProp 𝕄) : bigSep Finset.univ Φ
    = iprop(Φ .bar ∗ (bigSep Finset.univ fun p : Fin 2 × Fin 3 => Φ (.send p.1 p.2)) ∗ bigSep Finset.univ fun p : Fin 2 × Fin 3 => Φ (.recv p.1 p.2)) := by
  have e := bigSep_univ_eq_bigSepL [Sum.inl (), .inr (.inl (0, 0)), .inr (.inl (0, 1)), .inr (.inl (0, 2)), .inr (.inl (1, 0)), .inr (.inl (1, 1)), .inr (.inl (1, 2)),
      .inr (.inr (0, 0)), .inr (.inr (0, 1)), .inr (.inr (0, 2)), .inr (.inr (1, 0)), .inr (.inr (1, 1)), .inr (.inr (1, 2))] (by decide) (by decide)
    (fun x : Unit ⊕ (Fin 2 × Fin 3) ⊕ (Fin 2 × Fin 3) => Φ (x.elim (fun _ => .bar) (Sum.elim (fun p => .send p.1 p.2) fun p => .recv p.1 p.2)))
  rw [BI.bigSep_univ_sum, BI.bigSep_univ_sum, bigSep_univ_eq_bigSepL [()] (by decide) (by decide)] at e
  simp only [bigSepL_cons_cons, bigSepL_singleton] at e
  exact (cells_list Φ).trans e.symm

theorem ownSems0_eq (c : Dev nD) : (Pipeline.ownSems0 (Ix := Unit) (Name := ℕ) (U := UU) (Lvl := ℕ) (Val := Elt F) (τ := τ) osem c : sProp 𝕄)
    = iprop((bigSep Finset.univ fun p : Fin 2 × Fin 3 => semVal (kcell (c, .send p.1 p.2)) 0) ∗ bigSep Finset.univ fun p : Fin 2 × Fin 3 => semVal (kcell (c, .recv p.1 p.2)) 0) := by
  unfold Pipeline.ownSems0; rw [BI.bigSep_univ_sum]; rfl
theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl

theorem closed_eq (c : Dev nD) : (closed c : sProp 𝕄)
    = iprop(unscopedSems0 c ∗ Pipeline.ownSems0 (Ix := Unit) (Name := ℕ) (U := UU) (Lvl := ℕ) (Val := Elt F) (τ := τ) osem c) := by
  unfold closed; rw [cells_by_kind, ownSems0_eq, unscopedSems0_eq]

/-! ## The schedule's starting state and the tokens -/

/-- Every semaphore of every device. -/
def allKCells : Finset (GSem nD τ sig) := Finset.univ.map ⟨kcell, kcell_injective⟩

/-- The duties of one device's semaphores: three on its barrier, one on each of the twelve others. -/
abbrev Duty : Type := Fin 3 ⊕ (Fin 2 × Fin 3) ⊕ (Fin 2 × Fin 3)
abbrev dutyOf : Duty → Cell × Fin 3
  | .inl t => (.bar, t)
  | .inr (.inl p) => (.send p.1 p.2, 0)
  | .inr (.inr p) => (.recv p.1 p.2, 0)
theorem dutyOf_injective : Function.Injective dutyOf := by
  have h : ∀ a b : Duty, dutyOf a = dutyOf b → a = b := by decide +kernel
  exact h
abbrev tokOf (x : Dev nD × Duty) : GSem nD τ sig × ℕ × Fin 3 := (kcell (x.1, (dutyOf x.2).1), 0, (dutyOf x.2).2)
theorem tokOf_injective : Function.Injective tokOf := by
  rintro ⟨c, j⟩ ⟨c', j'⟩ h
  have h1 := kcell_injective (congrArg (fun x => x.1) h)
  have h2 : (dutyOf j).2 = (dutyOf j').2 := congrArg (fun x => x.2.2) h
  exact Prod.ext (congrArg (fun x => x.1) h1) (dutyOf_injective (Prod.ext (congrArg (fun x => x.2) h1) h2))
def allToks : Finset (GSem nD τ sig × ℕ × Fin 3) := Finset.univ.map ⟨tokOf, tokOf_injective⟩

/-- The state the whole run starts from: the pipeline's, and the schedule's. -/
def u₀ : UU := (initOf (Pipeline.cells cfgs cellOf_inj) (Pipeline.launchToks cfgs cellOf_inj), initOf allKCells allToks)

/-- The tokens of device `c`'s own semaphores, before they are dealt out. -/
def minted (c : Dev nD) : sProp 𝕄 :=
  iprop((bigSep Finset.univ fun t : Fin 3 => dutyTok EX (kcell (c, .bar)) 0 t)
    ∗ (bigSep Finset.univ fun p : Fin 2 × Fin 3 => dutyTok EX (kcell (c, .send p.1 p.2)) 0 0)
    ∗ (bigSep Finset.univ fun p : Fin 2 × Fin 3 => dutyTok EX (kcell (c, .recv p.1 p.2)) 0 0))

/-- What the starting state gives each device. -/
def G (c : Dev nD) : sProp 𝕄 :=
  iprop((bigSep Finset.univ fun k : Cell => roundState EX (Rd m ρ) (kcell (c, k)) 0)
    ∗ ((bigSep Finset.univ fun k : Cell => atPos EX (kcell (c, k)) 0 ∅ 0) ∗ bigSep Finset.univ fun k : Cell => reached EX (kcell (c, k)) 0) ∗ minted c)
/-- What it has once the invariants are there and the tokens dealt. -/
def G' (c : Dev nD) : sProp 𝕄 := iprop(∃ K, ghost m ρ K c)

theorem over_cells (Φ : GSem nD τ sig → sProp 𝕄) :
    bigSep allKCells Φ = bigSep Finset.univ fun c : Dev nD => bigSep Finset.univ fun k : Cell => Φ (kcell (c, k)) := by
  unfold allKCells; rw [bigSep_map, bigSep_univ_prod]; rfl
theorem over_toks : bigSep allToks (fun x => (dutyTok EX x.1 x.2.1 x.2.2 : sProp 𝕄)) = bigSep Finset.univ fun c : Dev nD => minted c := by
  unfold allToks; rw [bigSep_map, bigSep_univ_prod]
  exact bigSep_congr fun c _ => by unfold minted; rw [BI.bigSep_univ_sum, BI.bigSep_univ_sum]; rfl

theorem fund_all : BI.own (EX (initOf allKCells allToks)) ⊢ (|==> bigSep Finset.univ (G m ρ) : sProp 𝕄) := by
  iintro HX
  imod (Rounds.fund EX (Rd m ρ) allKCells allToks) $$ HX with ⟨Hst, Hr, Hat, Htok⟩
  imodintro
  ihave Hst := (Entails.of_eq (over_cells fun g => roundState EX (Rd m ρ) g 0)) $$ Hst
  ihave Hat := (Entails.of_eq (over_cells fun g => atPos EX g 0 ∅ 0)) $$ Hat
  ihave Hr := (Entails.of_eq (over_cells fun g => reached EX g 0)) $$ Hr
  ihave Htok := (Entails.of_eq over_toks) $$ Htok
  unfold G; simp only [bigSep_sep']
  isplitl [Hst]; · iexact Hst
  isplitl [Hat Hr]
  · isplitl [Hat]; · iexact Hat
    iexact Hr
  iexact Htok

/-- A device's semaphores put under the schedule. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv EX (Rd m ρ) κ (kcell (c, k))))
          ∗ ((bigSep Finset.univ fun k : Cell => atPos EX (kcell (c, k)) 0 ∅ 0) ∗ bigSep Finset.univ fun k : Cell => reached EX (kcell (c, k)) 0) ∗ minted c) := by
  unfold G
  iintro ⟨Hos, Hus, Hst, Hat, Htok⟩
  ihave Hv := (Entails.of_eq (closed_eq (F := F) c).symm) $$ [Hos Hus]
  · isplitl [Hus] <;> iassumption
  imod (show iprop(closed c ∗ bigSep Finset.univ fun k : Cell => roundState EX (Rd m ρ) (kcell (c, k)) 0)
      ⊢ (|={Set.univ}=> bigSep Finset.univ fun k : Cell => iprop(∃ κ : ℕ, cellInv EX (Rd m ρ) κ (kcell (c, k))) : sProp 𝕄) from by
        unfold closed
        rw [← bigSep_sep']
        exact (bigSep_mono fun k _ => (Rounds.body_intro EX (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every token reaches the device that pays with it. -/
theorem deal : (bigSep Finset.univ fun c : Dev nD => (minted c : sProp 𝕄)) = bigSep Finset.univ fun c : Dev nD => tokens c := by
  unfold minted tokens
  rw [bigSep_sep', bigSep_sep', bigSep_sep', bigSep_sep']
  congr 1
  · rw [bigSep_univ_comm, bigSep_univ_comm (fun c t => dutyTok EX (kcell (writer t c, Cell.bar)) 0 t)]
    exact bigSep_congr fun t _ => bigSep_univ_equiv (around t) fun c : Dev nD => (dutyTok EX (kcell (c, Cell.bar)) 0 t : sProp 𝕄)
  · congr 1
    rw [bigSep_univ_comm, bigSep_univ_comm (fun c (p : Fin 2 × Fin 3) => dutyTok EX (kcell (target p.2 c, Cell.recv p.1 p.2)) 0 0)]
    exact bigSep_congr fun p _ => bigSep_univ_equiv (around p.2).symm fun c : Dev nD => (dutyTok EX (kcell (c, Cell.recv p.1 p.2)) 0 0 : sProp 𝕄)

/-- One persistent fact serves every device. -/
theorem to_each {R : sProp 𝕄} [BI.Persistent R] {Φ Ψ : Dev nD → sProp 𝕄} (h : ∀ c, BIBase.Entails iprop(R ∗ Φ c) (Ψ c)) :
    BIBase.Entails iprop(R ∗ bigSep Finset.univ Φ) (bigSep Finset.univ Ψ) :=
  BIBase.Entails.trans (sep_mono_left (BI.bigSep_of_persistent Finset.univ R)) (by rw [← bigSep_sep']; exact bigSep_mono fun c _ => h c)

theorem ghost_intro (K : Dev nD × Cell → ℕ) (c : Dev nD) :
    BIBase.Entails iprop(records m ρ K ∗ (bigSep Finset.univ fun k : Cell => atPos EX (kcell (c, k)) 0 ∅ 0) ∗ tokens c) (G' m ρ c) := by
  unfold G' ghost
  iintro H; iexists K; iexact H

theorem regroup :
    (bigSep Finset.univ fun c : Dev nD => iprop((bigSep Finset.univ fun k : Cell => iprop(∃ κ : ℕ, cellInv EX (Rd m ρ) κ (kcell (c, k))))
          ∗ ((bigSep Finset.univ fun k : Cell => atPos EX (kcell (c, k)) 0 ∅ 0) ∗ bigSep Finset.univ fun k : Cell => reached EX (kcell (c, k)) 0) ∗ minted c) : sProp 𝕄)
      ⊢ bigSep Finset.univ (G' m ρ) := by
  rw [bigSep_sep', bigSep_sep', bigSep_sep', deal, ← bigSep_univ_prod (fun p : Dev nD × Cell => iprop(∃ κ : ℕ, cellInv EX (Rd m ρ) κ (kcell p))),
    ← bigSep_univ_prod (fun p : Dev nD × Cell => (reached EX (kcell p) 0 : sProp 𝕄))]
  iintro ⟨HI, ⟨Hat, #HR⟩, Htok⟩
  ihave HK := (BI.bigSep_exists_pi Finset.univ (fun (p : Dev nD × Cell) (κ : ℕ) => (cellInv EX (Rd m ρ) κ (kcell p) : sProp 𝕄))) $$ HI
  icases HK with ⟨%K, #HI⟩
  iapply (to_each (R := records m ρ K) fun c => ghost_intro m ρ K c)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What the devices owe each other at the start -/

theorem launch_credit (p : Dev nD × Cell) :
    tallyOn (kcell p) (launchCredit (Pipeline.owing fun d => debt (dues d)) 0 (kcell p)) = (tallyAt (kcell p) () (paidTimes p.2 * unitOf p.2) : CellTallies nD τ sig Unit) := by
  unfold tallyAt; refine congrArg _ (Finsupp.ext fun u => ?_); cases u
  rw [Pipeline.launchCredit_owing, Finsupp.single_eq_same, Finset.sum_congr rfl fun d _ => debt_apply (dues d) p, ← Finset.sum_mul, dues_count]

theorem launch_credits (c : Dev nD) : (Pipeline.launchCred (fun d => debt (dues d)) c : sProp 𝕄) ⊢ credits c := by
  have hsub : BIBase.Entails (PROP := sProp 𝕄) (Pipeline.launchCred (fun d => debt (dues d)) c)
      (bigSep Finset.univ fun k : Cell => cred (tallyAt (kcell (c, k)) () (paidTimes k * unitOf k))) := by
    unfold Pipeline.launchCred
    refine BIBase.Entails.trans (BI.bigSep_subset (Finset.subset_univ (Finset.univ.map ⟨csem, csem_injective⟩))) ?_
    rw [bigSep_map]
    exact bigSep_mono fun k _ => Entails.of_eq (congrArg cred (launch_credit (c, k)))
  refine BIBase.Entails.trans hsub ?_
  rw [cells_by_kind]
  unfold credits
  iintro ⟨Hb, -, Hr⟩
  isplitl [Hb]; · iexact Hb
  simp only [paidTimes, unitOf, Nat.one_mul]
  iexact Hr

/-! ## Before and after the region -/

theorem start_intro (c : Dev nD) :
    iprop(Pipeline.unscopedRestP Pipeline.Prefetch.none cfg0.spec c (fun b => m ((c : Thread nD τ).loc b)) ∗ levAts L lv
        ∗ Pipeline.launchCred (fun d => debt (dues d)) c ∗ prngReg c (ρ c) ∗ G' m ρ c)
      ⊢ |={Set.univ}=> iprop(start m ρ c ∗ emp) := by
  iintro ⟨-, Hlev, Hcr, -, HG⟩
  ihave Hc := (launch_credits (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [closed_eq]
  iintro ⟨Hp, Hu, Ho⟩
  isplitl [Hu]; · iexact Hu
  isplitl [Ho]; · iexact Ho
  iapply (scratch_join c); iexact Hp

theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), .dma ((cfg0.win w).sem s)) () = 0 := by fin_cases w <;> fin_cases s <;> rfl
    rcases t with ⟨_ | _, ht⟩
    · refine mayWait_below c _ (dues c) 0 hlv fun p hp => ?_
      simp only [dues, List.mem_cons, List.not_mem_nil, _root_.or_false] at hp
      rcases hp with rfl | rfl | rfl | rfl | rfl | rfl | rfl | rfl | rfl <;> first | exact Nat.one_pos | exact Nat.two_pos
    · exact mayWait_below c _ [] 0 hlv fun p hp => absurd hp (List.not_mem_nil)

/-! ## The run -/

def finalA (c : Dev nD) (w : Fin cfg0.W) : Buf (Elt F) ((cfg0.win w).arr.view.loc (c : Thread nD τ)) := (dats m ρ 0 c).arrAt w cfg0.N

/-- From any memory with every semaphore at zero, the four devices' run ends, and whenever it does each device's arrays hold
    what was computed and every semaphore is at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => debt (dues d)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.ArgMax

end
-- ==== Proof.First.lean ====
/-
# The first of the largest

The mathematics of the problem, over one column: the first place, among some of the places, that holds the largest
element. There is exactly one; folds find it; and the first of two sets of places is the better of the two firsts.
-/
module

public import Idealize.ShloMosaic.PureOps.Reduce
public import Idealize.ShloMosaic.PureOps.Ideal.Laws

@[expose] public section

noncomputable section

namespace Cert.ArgMax

open Idealize.ShloMosaic

variable {n : ℕ}

/-- Among the places `S`, `i` is the first at which `x` is largest. -/
def First (S : Fin n → Prop) (x : Fin n → EReal) (i : Fin n) : Prop :=
  S i ∧ ∀ k, S k → x k ≤ x i ∧ (k < i → x k < x i)

theorem First.unique {S : Fin n → Prop} {x : Fin n → EReal} {i j : Fin n} (hi : First S x i) (hj : First S x j) : i = j := by
  rcases lt_trichotomy i j with h | h | h
  · exact absurd ((hj.2 i hi.1).2 h) (not_lt.mpr (hi.2 j hj.1).1)
  · exact h
  · exact absurd ((hi.2 j hj.1).2 h) (not_lt.mpr (hj.2 i hi.1).1)

theorem First.congr {S T : Fin n → Prop} {x : Fin n → EReal} {i : Fin n} (h : First S x i) (e : ∀ k, S k ↔ T k) : First T x i :=
  ⟨(e i).1 h.1, fun k hk => h.2 k ((e k).2 hk)⟩

/-- There is such a place as soon as there is a place. -/
theorem exists_first (S : Fin n → Prop) (x : Fin n → EReal) (hS : ∃ i, S i) : ∃ i, First S x i := by
  classical
  obtain ⟨i₀, h₀⟩ := hS
  obtain ⟨p, hp, hmax⟩ := Finset.exists_max_image (Finset.univ.filter S) x ⟨i₀, by simpa using h₀⟩
  have hp' : S p := by simpa using hp
  obtain ⟨i, hi, hmin⟩ := Finset.exists_min_image (Finset.univ.filter fun k => S k ∧ x k = x p) id ⟨p, by simpa using hp'⟩
  have hi' : S i ∧ x i = x p := by simpa using hi
  refine ⟨i, hi'.1, fun k hk => ?_⟩
  have hle : x k ≤ x i := by rw [hi'.2]; exact hmax k (by simpa using hk)
  refine ⟨hle, fun hlt => lt_of_le_of_ne hle fun e => ?_⟩
  exact absurd (hmin k (by simpa using ⟨hk, e.trans hi'.2⟩)) (not_le.mpr hlt)

/-- The first of two sets of places: the second set's where its element is larger, or equal and at an earlier place. -/
theorem First.union {S T : Fin n → Prop} {x : Fin n → EReal} {i j : Fin n} (hi : First S x i) (hj : First T x j) :
    First (fun k => S k ∨ T k) x (if x i < x j ∨ (x j = x i ∧ j < i) then j else i) := by
  by_cases h : x i < x j ∨ (x j = x i ∧ j < i)
  · rw [if_pos h]
    refine ⟨Or.inr hj.1, fun k hk => ?_⟩
    rcases hk with hk | hk
    · have hk' := hi.2 k hk
      rcases h with h | ⟨e, h⟩
      · exact ⟨(hk'.1.trans_lt h).le, fun _ => hk'.1.trans_lt h⟩
      · rw [e]
        exact ⟨hk'.1, fun hlt => hk'.2 (hlt.trans h)⟩
    · exact hj.2 k hk
  · rw [if_neg h]
    have h1 : x j ≤ x i := not_lt.mp fun hl => h (Or.inl hl)
    refine ⟨Or.inl hi.1, fun k hk => ?_⟩
    rcases hk with hk | hk
    · exact hi.2 k hk
    · have hk' := hj.2 k hk
      refine ⟨hk'.1.trans h1, fun hlt => ?_⟩
      rcases h1.lt_or_eq with hl | e
      · exact hk'.1.trans_lt hl
      · exact (hk'.2 (hlt.trans_le (not_lt.mp fun hji => h (Or.inr ⟨e, hji⟩)))).trans_le h1

/-- The first of the largest among some places, seen among all of them: the places may be renamed if their order is kept. -/
theorem First.image {N : ℕ} {e : Fin n → Fin N} (he : StrictMono e) {x : Fin N → EReal} {i : Fin n}
    (h : First (fun _ => True) (fun k => x (e k)) i) : First (fun p => ∃ k, e k = p) x (e i) :=
  ⟨⟨i, rfl⟩, fun p hp => by
    obtain ⟨k, rfl⟩ := hp
    exact ⟨(h.2 k trivial).1, fun hlt => (h.2 k trivial).2 (he.lt_iff_lt.mp hlt)⟩⟩

/-! ## A pair that names the first -/

/-- A row's number as an extended real. -/
def num (r : ℕ) : EReal := ((r : ℝ) : EReal)

theorem num_lt {r s : ℕ} : num r < num s ↔ r < s := by unfold num; rw [EReal.coe_lt_coe_iff, Nat.cast_lt]

/-- `v` is the largest element among the places `S`, and `r` the number of the place it is first at. -/
def Holds (S : Fin n → Prop) (x : Fin n → EReal) (v r : EReal) : Prop := ∃ i, First S x i ∧ v = x i ∧ r = num i.val

theorem Holds.unique {S : Fin n → Prop} {x : Fin n → EReal} {v r w s : EReal} (h : Holds S x v r) (h' : Holds S x w s) :
    v = w ∧ r = s := by
  obtain ⟨i, hi, rfl, rfl⟩ := h
  obtain ⟨j, hj, rfl, rfl⟩ := h'
  rw [hi.unique hj]
  exact ⟨rfl, rfl⟩

theorem Holds.congr {S T : Fin n → Prop} {x : Fin n → EReal} {v r : EReal} (h : Holds S x v r) (e : ∀ k, S k ↔ T k) :
    Holds T x v r := by
  obtain ⟨i, hi, hv⟩ := h
  exact ⟨i, hi.congr e, hv⟩

/-- The better of two such pairs is the pair of both sets of places together. -/
theorem Holds.union {S T : Fin n → Prop} {x : Fin n → EReal} {v r w s : EReal} (h : Holds S x v r) (h' : Holds T x w s) :
    Holds (fun k => S k ∨ T k) x (if v < w ∨ (w = v ∧ s < r) then w else v) (if v < w ∨ (w = v ∧ s < r) then s else r) := by
  obtain ⟨i, hi, rfl, rfl⟩ := h
  obtain ⟨j, hj, rfl, rfl⟩ := h'
  refine ⟨_, hi.union hj, ?_⟩
  simp only [num_lt, ← Fin.lt_def]
  split <;> exact ⟨rfl, rfl⟩

/-! ## Folds -/

/-- The fold of the maximum, from below every element, is the element at the first place. -/
theorem fold_max_eq {b : EReal} {x : Fin n → EReal} {i : Fin n} (hi : First (fun _ => True) x i) (hb : b ≤ x i) :
    (Finset.univ : Finset (Fin n)).fold max b x = x i :=
  le_antisymm ((Finset.fold_max_le _).mpr ⟨hb, fun k _ => (hi.2 k trivial).1⟩)
    ((Finset.le_fold_max _).mpr (Or.inr ⟨i, Finset.mem_univ _, le_rfl⟩))

theorem minsi_of_le {a b : BitVec 32} (h : a.toInt ≤ b.toInt) : IntOp.minsi a b = a := by
  unfold IntOp.minsi
  split
  · rfl
  · rename_i h'
    rw [BitVec.slt_iff_toInt_lt] at h'
    exact (BitVec.eq_of_toInt_eq (le_antisymm h (not_lt.mp h'))).symm

theorem le_minsi {v a b : BitVec 32} (ha : v.toInt ≤ a.toInt) (hb : v.toInt ≤ b.toInt) : v.toInt ≤ (IntOp.minsi a b).toInt := by
  unfold IntOp.minsi; split <;> assumption

theorem le_fold_minsi {ι : Type} [DecidableEq ι] {v b : BitVec 32} (f : ι → BitVec 32) (s : Finset ι) (hb : v.toInt ≤ b.toInt)
    (hf : ∀ k ∈ s, v.toInt ≤ (f k).toInt) : v.toInt ≤ (s.fold IntOp.minsi b f).toInt := by
  induction s using Finset.induction_on with
  | empty => simpa using hb
  | insert a s ha ih =>
    rw [Finset.fold_insert ha]
    exact le_minsi (hf a (Finset.mem_insert_self _ _)) (ih fun k hk => hf k (Finset.mem_insert_of_mem hk))

/-- The fold of the signed minimum is an element below all others. -/
theorem fold_minsi_eq {ι : Type} [DecidableEq ι] {b : BitVec 32} (f : ι → BitVec 32) (s : Finset ι) (i : ι) (hi : i ∈ s)
    (hb : (f i).toInt ≤ b.toInt) (hf : ∀ k ∈ s, (f i).toInt ≤ (f k).toInt) : s.fold IntOp.minsi b f = f i := by
  rw [← Finset.insert_erase hi, Finset.fold_insert (Finset.notMem_erase _ _)]
  exact minsi_of_le (le_fold_minsi f _ hb fun k hk => hf k (Finset.mem_of_mem_erase hk))

/-! ## The fold over (element, place) pairs -/

/-- A place as a word. -/
abbrev place (i : Fin n) : BitVec 32 := BitVec.ofNat 32 i.val

theorem place_toInt (hn : n ≤ 2 ^ 31) (i : Fin n) : (place i).toInt = i.val := by
  have := i.isLt
  rw [BitVec.toInt_eq_toNat_of_lt] <;> simp [BitVec.toNat_ofNat] <;> omega

/-- A fold down the places, keeping the pair it has unless the next element is larger, ends at the first of the largest: from
    the first `i` of the places `S`, over places after all of `S`. -/
theorem fold_pairs {x : Fin n → EReal} (step : EReal × BitVec 32 → EReal × BitVec 32 → EReal × BitVec 32)
    (hstep : ∀ i k : Fin n, i < k → step (x i, place i) (x k, place k) = if x i < x k then (x k, place k) else (x i, place i)) :
    ∀ (l : List (Fin n)) (S : Fin n → Prop) (i : Fin n), First S x i → (∀ k ∈ l, ∀ p, S p → p < k) → l.Pairwise (· < ·) →
      ∃ i', l.foldl (fun acc k => step acc (x k, place k)) (x i, place i) = (x i', place i') ∧ First (fun k => S k ∨ k ∈ l) x i'
  | [], S, i, hi, _, _ => ⟨i, rfl, hi.congr fun k => by simp⟩
  | k :: l, S, i, hi, hl, hp => by
    obtain ⟨hk, hp'⟩ := List.pairwise_cons.mp hp
    have hik : i < k := hl k List.mem_cons_self i hi.1
    have hkk : First (fun p => p = k) x k := ⟨rfl, fun p e => by subst e; exact ⟨le_rfl, fun h => absurd h (lt_irrefl _)⟩⟩
    have hu := hi.union hkk
    have e : (if x i < x k ∨ (x k = x i ∧ k < i) then k else i) = if x i < x k then k else i := by
      refine if_congr ⟨fun h => h.resolve_right fun h => absurd h.2 (not_lt.mpr hik.le), Or.inl⟩ rfl rfl
    rw [e] at hu
    obtain ⟨i', he, hi'⟩ := fold_pairs step hstep l _ _ hu (fun k' hk' p hp => by
      rcases hp with hp | rfl
      · exact hl k' (List.mem_cons_of_mem _ hk') p hp
      · exact hk k' hk') hp'
    refine ⟨i', ?_, hi'.congr fun p => by simp [or_assoc]⟩
    rw [List.foldl_cons, hstep i k hik, ← he]
    split <;> rfl

end Cert.ArgMax

end
-- ==== Proof.Partial.lean ====
/-
# What one device sends

Over the extended reals, a device's partial result holds, for each of its columns, the largest element of its rows and
the number, among all rows, of the row it is first at.
-/
module

public import proofs.«01_k».proof.Proof.Schedule
public import proofs.«01_k».proof.Proof.First
public import Idealize.ShloMosaic.Lib.Pipeline.Value
public import Idealize.ShloMosaic.Lib.ValueLayout

@[expose] public section

set_option maxRecDepth 16384

noncomputable section

namespace Cert.ArgMax

open Cert.KernelIdeal Cert.KernelIdeal.Gen
open Idealize.ShloMosaic Idealize.SL.Sem Idealize.ShloMosaic.ValueIdx

/-- The word for minus infinity is the least extended real. -/
theorem negInf : (FloatOps.ofBits .f32 0xFF800000#32 : Ideal .f32) = (⊥ : EReal) := by
  show Ideal.ofBits .f32 0xFF800000#32 = ⊥
  simp [Ideal.ofBits, Ideal.ieee]

/-- One row of 256 as the only row of a block. -/
theorem row_cast {α : Type} (z : S256.Idx → α) (j : Fin 256) :
    shapeCast S1x256 z shapeCasts_S256_S1x256 (ix2 (0 : Fin 1) j) = z (ix1 j) :=
  shapeCast_a_1a_apply z shapeCasts_S256_S1x256 (0 : Fin 1) j

theorem stack_top {α : Type} (a b : S1x256.Idx → α) (j : Fin 256) :
    concatenate S2x256 0 [⟨S1x256, a⟩, ⟨S1x256, b⟩] concatenates_S1x256_S1x256_S2x256_d0 (ix2 (0 : Fin 2) j) = a (ix2 (0 : Fin 1) j) :=
  concatenate_apply_piece (t := S2x256) 0 [⟨S1x256, a⟩, ⟨S1x256, b⟩] concatenates_S1x256_S1x256_S2x256_d0 (ix2 (0 : Fin 2) j) 0
    (by simp) S1x256 a rfl rfl 0 rfl (ix2 (0 : Fin 1) j) (fun b hb => by fin_cases b <;> first | rfl | exact absurd rfl hb) rfl
theorem stack_bottom {α : Type} (a b : S1x256.Idx → α) (j : Fin 256) :
    concatenate S2x256 0 [⟨S1x256, a⟩, ⟨S1x256, b⟩] concatenates_S1x256_S1x256_S2x256_d0 (ix2 (1 : Fin 2) j) = b (ix2 (0 : Fin 1) j) :=
  concatenate_apply_piece (t := S2x256) 0 [⟨S1x256, a⟩, ⟨S1x256, b⟩] concatenates_S1x256_S1x256_S2x256_d0 (ix2 (1 : Fin 2) j) 1
    (by simp) S1x256 b rfl rfl 1 rfl (ix2 (0 : Fin 1) j) (fun b hb => by fin_cases b <;> first | rfl | exact absurd rfl hb) rfl

/-- The place of an element of a column of a block, once the column is named. -/
theorem lift_row (j : Fin 256) (k : Fin 512) : reduces_S512x256_S256.lift (ix1 j) k = ix2 k j :=
  funext fun a => Fin.ext ((Shape.Reduces.lift_val reduces_S512x256_S256 (ix1 j) k a).trans (by fin_cases a <;> rfl))

/-- The words for a device's number and a row's. -/
theorem word_eq (c : Dev nD) : word c = BitVec.ofNat 32 c.val := by revert c; decide

theorem row_word (c : Dev nD) (i : Fin 512) :
    (IntOp.addi (place i) (Scalar.muli (word c) 512#32)).toInt = ((512 * c.val + i.val : ℕ) : ℤ) := by
  have hc : c.val < 4 := c.isLt
  have hi := i.isLt
  rw [word_eq]
  have e : IntOp.addi (place i) (Scalar.muli (BitVec.ofNat 32 c.val) 512#32) = BitVec.ofNat 32 (512 * c.val + i.val) := by
    apply BitVec.eq_of_toNat_eq
    show ((BitVec.ofNat 32 i.val) + (BitVec.ofNat 32 c.val) * 512#32).toNat = _
    simp [BitVec.toNat_add, BitVec.toNat_mul, BitVec.toNat_ofNat]
    omega
  rw [e, BitVec.toInt_eq_toNat_of_lt] <;> simp [BitVec.toNat_ofNat] <;> omega

/-- The columns' largest elements, as the kernel takes them. -/
def columnMax (v : FVec Ideal S512x256 .f32) : FVec Ideal S256 .f32 :=
  multiReduction .maximumf [0] S256 v 0xFF800000#32 reduces_S512x256_S256 (.inl rfl) rfl

/-- The rows' numbers where an element is the largest of its column, and a number past all of them elsewhere; -/
def candidates (v : FVec Ideal S512x256 .f32) : IVec S512x256 32 :=
  select (cmpf .oeq v (broadcastTo S512x256 (shapeCast S1x256 (columnMax v) shapeCasts_S256_S1x256) broadcasts_S1x256_S512x256))
    (iota .tc S512x256 32 [0] iota_S512x256_d0_w32) (broadcast S512x256 2048#32)
/-- the smallest in every column. -/
def columnRow (v : FVec Ideal S512x256 .f32) : IVec S256 32 :=
  multiReductionI .minsi [0] S256 (candidates v) 2147483647#32 reduces_S512x256_S256 rfl
/-- The two rows a device sends. -/
theorem sent_eq (w : BitVec 32) (v : FVec Ideal S512x256 .f32) :
    shapeCast S2x256 (k0_pay1 (F := Ideal) w v) shapeCasts_S1x2x256_S2x256
      = concatenate S2x256 0 [⟨S1x256, shapeCast S1x256 (columnMax v) shapeCasts_S256_S1x256⟩,
          ⟨S1x256, sitofp (F := Ideal) .f32 (addi (shapeCast S1x256 (columnRow v) shapeCasts_S256_S1x256)
            (broadcast S1x256 (Scalar.muli w 512#32)))⟩] concatenates_S1x256_S1x256_S2x256_d0 := by
  unfold k0_pay1
  rw [shapeCast_shapeCast, shapeCast_self]
  rfl

/-- What a device computes from half of its block `v`, at column `j`, when row `i` of the block is the first at which the
    column is largest. -/
theorem partial_value (c : Dev nD) (v : FVec Ideal S512x256 .f32) (j : Fin 256) (i : Fin 512)
    (hi : First (fun _ => True) (fun k : Fin 512 => (v (ix2 k j) : EReal)) i) :
    shapeCast S2x256 (k0_pay1 (F := Ideal) (word c) v) shapeCasts_S1x2x256_S2x256 (ix2 (0 : Fin 2) j) = v (ix2 i j)
      ∧ shapeCast S2x256 (k0_pay1 (F := Ideal) (word c) v) shapeCasts_S1x2x256_S2x256 (ix2 (1 : Fin 2) j) = num (512 * c.val + i.val) := by
  -- the largest
  have hmax : columnMax v (ix1 j) = v (ix2 i j) := by
    unfold columnMax
    refine (Ideal.multiReduction_maximumf_single _ _ _ _ _ _).trans ?_
    have hb : (FloatOps.ofBits .f32 0xFF800000#32 : Ideal .f32) = (⊥ : EReal) := negInf
    rw [hb]
    have e : v ∘ reduces_S512x256_S256.lift (ix1 j) = fun k => v (ix2 k j) := funext fun k => congrArg v (lift_row j k)
    exact (congrArg (fun f => (Finset.univ : Finset (Fin 512)).fold max (⊥ : EReal) f) e).trans (fold_max_eq hi bot_le)
  -- the largest at every column, read back at an element of the block
  have hspread : ∀ k : Fin 512, broadcastTo S512x256
      (shapeCast S1x256 (columnMax v) shapeCasts_S256_S1x256)
      broadcasts_S1x256_S512x256 (ix2 k j) = v (ix2 i j) := fun k => by
    rw [broadcastTo_apply _ broadcasts_S1x256_S512x256 (ix2 k j) (ix2 (0 : Fin 1) j) (fun a => by fin_cases a <;> rfl), row_cast, hmax]
  -- the row it is first at
  have hmask : ∀ k : Fin 512, candidates v (ix2 k j) = if (v (ix2 k j) : EReal) = v (ix2 i j) then place k else 2048#32 := fun k => by
    show Scalar.select (Ideal.cmp .oeq (v (ix2 k j)) _) (iota .tc S512x256 32 [0] iota_S512x256_d0_w32 (ix2 k j)) (2048#32) = _
    rw [hspread, iota_single_apply]
    unfold Ideal.cmp Scalar.select
    by_cases h : (v (ix2 k j) : EReal) = v (ix2 i j)
    · simp [h]
    · simp [h]
  have hrow : columnRow v (ix1 j) = place i := by
    classical
    refine (multiReductionI_eq_fold _ _ _ _ _ _).trans ((reduces_S512x256_S256.fold_filter_drop_single _ _ _ _).trans ?_)
    have e : candidates v ∘ reduces_S512x256_S256.lift (ix1 j) = fun k : Fin 512 => if (v (ix2 k j) : EReal) = v (ix2 i j) then place k else 2048#32 :=
      funext fun k => (congrArg (candidates v) (lift_row j k)).trans (hmask k)
    have hpi := place_toInt (by decide) i
    have hil := i.isLt
    have h := fold_minsi_eq (b := 2147483647#32) (fun k : Fin 512 => if (v (ix2 k j) : EReal) = v (ix2 i j) then place k else 2048#32)
      Finset.univ i (Finset.mem_univ _) (by
        simp only [if_true]
        rw [hpi, show (2147483647#32).toInt = 2147483647 from by decide]; omega) (fun k _ => by
        simp only [if_true]
        rw [hpi]
        split
        · rename_i hk
          rw [place_toInt (by decide) k]
          have : ¬ k < i := fun hlt => absurd hk ((hi.2 k trivial).2 hlt).ne
          have : i.val ≤ k.val := not_lt.mp this
          omega
        · rw [show (2048#32).toInt = 2048 from by decide]; omega)
    simp only [if_true] at h
    exact (congrArg (fun f => (Finset.univ : Finset (Fin 512)).fold IntOp.minsi 2147483647#32 f) e).trans h
  constructor
  · rw [sent_eq, stack_top, row_cast]
    exact hmax
  · rw [sent_eq, stack_bottom]
    show ((((IntOp.addi (shapeCast S1x256 (columnRow v) shapeCasts_S256_S1x256 (ix2 (0 : Fin 1) j))
      (Scalar.muli (word c) 512#32)).toInt : ℝ)) : EReal) = _
    rw [row_cast, hrow, row_word]
    exact congrArg (fun r : ℝ => (r : EReal)) (Int.cast_natCast (R := ℝ) _)

end Cert.ArgMax

end
-- ==== Proof.Arrays.lean ====
/-
# What the arrays hold

The kernel has one grid point, and each of its blocks is a whole array: what it reads is the device's argument, and its
result array ends at the combined result.
-/
module

public import proofs.«01_k».proof.Proof.Launch
public import proofs.«01_k».proof.Proof.Gen.KernelIdeal.Points
public import Idealize.ShloMosaic.Lib.Pipeline.Value

@[expose] public section

set_option maxRecDepth 16384

noncomputable section

namespace Cert.ArgMax

open Cert.KernelIdeal Cert.KernelIdeal.Gen
open Idealize.ShloMosaic Idealize.SL.Sem
open Idealize.ShloMosaic.TcCoe

variable {F : FTy → Type} [FloatOps F]
variable (m : (ℓ : Loc nD τ sig) → Buf (Elt F) ℓ) (ρ : Dev nD → PrngReg)

/-- A block that starts at the array's beginning has its elements at their own places. -/
theorem blk_emb (w : Fin cfg0.W) (t : Fin cfg0.N) (hz : ∀ a, (cfg0.win w).index t a = 0)
    (i : ((cfg0.win w).xblock (cfg0.grid.coords t)).Idx) (a : Fin (cfg0.win w).shape.rank) :
    (((cfg0.win w).rect t).emb i a : Nat) = i a :=
  (cfg0.win w).rect_emb_val_of_index_zero t a (hz a) i

/-- The staged block is the device's argument. -/
theorem xstg_eq (c : Dev nD) : xstg m ρ c = m ((c : Thread nD τ).loc main_arg0) := by
  funext i
  unfold xstg
  rw [View.read_apply]
  refine congrArg (m ((c : Thread nD τ).loc main_arg0)) (funext fun a => Fin.ext ?_)
  exact blk_emb 0 t0_0 (fun a => by fin_cases a <;> rfl) i a

theorem out_flushed (c : Dev nD) (t : Fin cfg0.N) :
    (dats m ρ 0 c).flushed 1 t = ((cfg0.win 1).blk t).view.read (Elt F) (outAt m ρ c) := by
  obtain rfl := fin_N0 t
  funext i
  rw [View.read_apply]
  show outAt m ρ c _ = outAt m ρ c _
  refine congrArg (outAt m ρ c) (funext fun a => Fin.ext ?_)
  exact (blk_emb 1 t0_0 (fun a => by fin_cases a <;> rfl) i a).symm

theorem out_cover (i : S2x512.Idx) : ∃ t : Fin cfg0.N, (cfg0.win 1).flush t = true ∧ i ∈ ((cfg0.win 1).blk t).view.set := by
  refine ⟨t0_0, flush0_1 _, ?_⟩
  have h : ((cfg0.win 1).blk t0_0).view.emb i = i :=
    funext fun a => Fin.ext (blk_emb 1 t0_0 (fun a => by fin_cases a <;> rfl) i a)
  rw [← h]
  exact ((cfg0.win 1).blk t0_0).view.emb_mem_set i

/-- A device's result array ends at the combined result. -/
theorem finalA_out (c : Dev nD) : finalA m ρ c (1 : Fin 2) = outAt m ρ c :=
  (dats m ρ 0 c).arrAt_eq_of_cover 1 (outAt m ρ c) (fun t _ => out_flushed m ρ c t) out_cover

end Cert.ArgMax

end
-- ==== Proof.Combine.lean ====
/-
# What a device combines

Over the extended reals, when the devices' arguments are the blocks of 512 rows of one array: a device's partial result
names the first of the largest among its own rows, a step of the combination keeps the better of two such pairs, and the
combination of the four devices' names the first of the largest among all rows.
-/
module

public import proofs.«01_k».proof.Proof.Partial
public import proofs.«01_k».proof.Proof.Arrays

@[expose] public section

set_option maxRecDepth 16384

noncomputable section

namespace Cert.ArgMax

open Cert.KernelIdeal Cert.KernelIdeal.Gen
open Idealize.ShloMosaic Idealize.SL.Sem
open Idealize.ShloMosaic.TcCoe

/-! ## One step -/

theorem keep_better (v r w s a b : EReal) :
    Scalar.select (IntOp.ori (Ideal.cmp .ogt w v) (IntOp.andi (Ideal.cmp .oeq w v) (Ideal.cmp .olt s r))) a b
      = if v < w ∨ (w = v ∧ s < r) then a else b := by
  unfold Ideal.cmp Scalar.select
  by_cases h1 : v < w <;> by_cases h2 : w = v <;> by_cases h3 : s < r <;>
    simp [h1, h2, h3, IntOp.ori, IntOp.andi]

/-- A step of the combination at one column: the pair it keeps is the pair of both sets of rows. -/
theorem step_holds {S T : Fin 2048 → Prop} {x : Fin 2048 → EReal} (i : S1x256.Idx) (v r w s : FVec Ideal S1x256 .f32)
    (h : Holds S x (v i) (r i)) (h' : Holds T x (w i) (s i)) :
    Holds (fun k => S k ∨ T k) x (select (ori (cmpf .ogt w v) (andi (cmpf .oeq w v) (cmpf .olt s r))) w v i)
      (select (ori (cmpf .ogt w v) (andi (cmpf .oeq w v) (cmpf .olt s r))) s r i) := by
  have e1 := keep_better (v i) (r i) (w i) (s i) (w i) (v i)
  have e2 := keep_better (v i) (r i) (w i) (s i) (s i) (r i)
  have hu := h.union h'
  rw [← e1, ← e2] at hu
  exact hu

/-- A row of a slot, as the kernel reads it, at one column. -/
theorem row_read (a : S2x256.Idx → Elt Ideal .f32) (r : Fin 2) (j : Fin 256) :
    shapeCast S1x256 (rowOf a r) shapeCasts_S1x1x256_S1x256 (ix2 (0 : Fin 1) j) = a (ix2 r j) :=
  ValueIdx.shapeCast_1ab_ab_apply (rowOf a r) shapeCasts_S1x1x256_S1x256 (0 : Fin 1) j

/-- The combination of four slots, each of which names the first among some rows, names the first among all of these. -/
theorem combined {S T U V : Fin 2048 → Prop} {x : Fin 2048 → EReal} (a b c d : S2x256.Idx → Elt Ideal .f32) (j : Fin 256)
    (ha : Holds S x (a (ix2 (0 : Fin 2) j)) (a (ix2 (1 : Fin 2) j))) (hb : Holds T x (b (ix2 (0 : Fin 2) j)) (b (ix2 (1 : Fin 2) j)))
    (hc : Holds U x (c (ix2 (0 : Fin 2) j)) (c (ix2 (1 : Fin 2) j))) (hd : Holds V x (d (ix2 (0 : Fin 2) j)) (d (ix2 (1 : Fin 2) j))) :
    Holds (fun k => ((S k ∨ T k) ∨ U k) ∨ V k) x (combVal (F := Ideal) a b c d (ix2 (0 : Fin 1) j))
      (combIdx (F := Ideal) a b c d (ix2 (0 : Fin 1) j)) := by
  rw [← row_read a 0, ← row_read a 1] at ha
  rw [← row_read b 0, ← row_read b 1] at hb
  rw [← row_read c 0, ← row_read c 1] at hc
  rw [← row_read d 0, ← row_read d 1] at hd
  exact step_holds _ _ _ _ _ (step_holds _ _ _ _ _ (step_holds _ _ _ _ _ ha hb) hc) hd

/-! ## The devices' partial results -/

/-- The column of the argument at column `j` of half `h`. -/
abbrev colAt (h : Fin 2) (j : Fin 256) : Fin 512 := ⟨256 * h.val + j.val, by omega⟩

theorem half_apply {F : FTy → Type} [FloatOps F] (x : (cc0_stg0_0 : Ref sig .tc).ty.Contents (Elt F)) (h : Fin 2) (k : Fin 512) (j : Fin 256) :
    half x h (ix2 k j) = x (ix2 k (colAt h j)) := by
  refine congrArg x (funext fun a => Fin.ext ?_)
  fin_cases a
  · show 0 + 1 * k.val = k.val
    omega
  · show 256 * h.val + 1 * j.val = 256 * h.val + j.val
    omega

/-- Row `k` of device `c`'s block, among all rows. -/
abbrev rowAt (c : Dev nD) (k : Fin 512) : Fin 2048 := ⟨512 * c.val + k.val, by have : c.val < 4 := c.isLt; omega⟩

variable (m : (ℓ : Loc nD τ sig) → Buf (Elt Ideal) ℓ) (ρ : Dev nD → PrngReg)
variable (X : (⟨2, ![2048, 512]⟩ : Shape).Idx → Elt Ideal .f32)

/-- The devices' arguments are the blocks of rows of `X`. -/
def Cut : Prop := ∀ (c : Dev nD) (k q : Fin 512), (m ((c : Thread nD τ).loc main_arg0) : S512x512.Idx → Elt Ideal .f32) (ix2 k q) = X (ix2 (rowAt c k) q)

/-- Column `q` of `X`. -/
abbrev column (q : Fin 512) : Fin 2048 → EReal := fun k => X (ix2 k q)

variable {m X}

theorem part_holds (hX : Cut m X) (c : Dev nD) (h : Fin 2) (j : Fin 256) :
    Holds (fun p => p.val / 512 = c.val) (column X (colAt h j)) (part m ρ c h (ix2 (0 : Fin 2) j)) (part m ρ c h (ix2 (1 : Fin 2) j)) := by
  have hv : ∀ k : Fin 512, half (xstg m ρ c) h (ix2 k j) = X (ix2 (rowAt c k) (colAt h j)) := fun k => by
    rw [half_apply, xstg_eq]
    exact hX c k _
  obtain ⟨i, hi⟩ := exists_first (fun _ : Fin 512 => True) (fun k => column X (colAt h j) (rowAt c k)) ⟨0, trivial⟩
  have e : (fun k : Fin 512 => (half (xstg m ρ c) h (ix2 k j) : EReal)) = fun k => column X (colAt h j) (rowAt c k) := funext hv
  have hi' : First (fun _ => True) (fun k : Fin 512 => (half (xstg m ρ c) h (ix2 k j) : EReal)) i := by rw [e]; exact hi
  have hp := partial_value c (half (xstg m ρ c) h) j i hi'
  have hm : StrictMono (rowAt c) := fun k l hkl => by
    have : k.val < l.val := hkl
    exact Fin.lt_def.mpr (by show 512 * c.val + k.val < 512 * c.val + l.val; omega)
  refine ⟨rowAt c i, (hi.image hm).congr fun p => ⟨?_, fun hp => ?_⟩, hp.1.trans (hv i), hp.2⟩
  · rintro ⟨k, rfl⟩
    show (512 * c.val + k.val) / 512 = c.val
    omega
  · exact ⟨⟨p.val % 512, Nat.mod_lt _ (by decide)⟩, Fin.ext (by show 512 * c.val + p.val % 512 = p.val; omega)⟩

/-- The devices a device hears from, and itself, are all of them. -/
theorem all_devices (c : Dev nD) (d : Fin 4) :
    ((d.val = c.val ∨ d.val = (writer 0 c).val) ∨ d.val = (writer 1 c).val) ∨ d.val = (writer 2 c).val := by
  revert c d; decide

theorem res_holds (hX : Cut m X) (c : Dev nD) (h : Fin 2) (j : Fin 256) :
    Holds (fun _ => True) (column X (colAt h j)) (res m ρ c 0 h (ix2 (0 : Fin 1) j)) (res m ρ c 1 h (ix2 (0 : Fin 1) j)) :=
  (combined _ _ _ _ j (part_holds ρ hX c h j) (part_holds ρ hX (writer 0 c) h j) (part_holds ρ hX (writer 1 c) h j)
    (part_holds ρ hX (writer 2 c) h j)).congr fun p =>
      iff_true_intro (all_devices c ⟨p.val / 512, by have := p.isLt; omega⟩)

/-- The kernel's result on every device: at every column, the first of the largest among all rows. -/
theorem out_holds (hX : Cut m X) (c : Dev nD) (q : Fin 512) :
    Holds (fun _ => True) (column X q) ((outAt m ρ c : S2x512.Idx → Elt Ideal .f32) (ix2 (0 : Fin 2) q))
      ((outAt m ρ c : S2x512.Idx → Elt Ideal .f32) (ix2 (1 : Fin 2) q)) := by
  have h := res_holds ρ hX c ⟨q.val / 256, by omega⟩ ⟨q.val % 256, Nat.mod_lt _ (by decide)⟩
  have e : colAt ⟨q.val / 256, by omega⟩ ⟨q.val % 256, Nat.mod_lt _ (by decide)⟩ = q :=
    Fin.ext (by show 256 * (q.val / 256) + q.val % 256 = q.val; omega)
  rw [e] at h
  exact h

end Cert.ArgMax

end
-- ==== Proof.Reference.lean ====
/-
# The reference, run

The reference is a straight line of host operations on one device: every buffer ends at the operations' results over
what the argument held, and the argument is not written.
-/
module

public import proofs.«01_k».proof.Proof.Gen.ReferenceIdeal
public import Idealize.ShloMosaic.Lib.StableHlo.Run
public import Idealize.ShloMosaic.Adequacy
public import Idealize.ShloMosaic.Init
public import Idealize.ShloMosaic.Lib.Claim
public import Idealize.ShloMosaic.Lib.Quiescent

@[expose] public section

set_option maxRecDepth 16384

noncomputable section

namespace Cert.ArgMaxRef

open Cert.ReferenceIdeal Cert.ReferenceIdeal.Gen
open Idealize.ShloMosaic Idealize.SL.Sem Idealize.ShloMosaic.StableHlo
open Idealize.ShloMosaic.TcCoe

variable {F : FTy → Type} [FloatOps F]

/-- The reference's operations in order, the outlined search for the largest element written in place. -/
def steps : List (HloOp τ sig (Elt F)) :=
  [ TRef.nullary main_call0.v0 (iotaInDim S2048x512 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S2048x512_S512_d0 h_S_ j).1),
    TRef.quaternary (.of main_arg0) main_call0.v0 main_call0.cst main_call0.c main_call0.v1_1
      (fun x y u v j => (Host.argReduce reducer_argmax_f32_i32 x y u v reducesTo_S2048x512_S512_d0 h_S_ j).2),
    unary main_v0 main_v1 (sitofp .f32),
    nullary main_cst (constant S_ .f32 0xFF800000#32),
    binary main_arg0 main_cst main_v2 (fun x v => Host.reduce FloatOps.maximumf x v reducesTo_S2048x512_S512_d0 h_S_),
    unary main_v2 main_v3 (broadcastInDim S1x512 ![1] bcast_S512_S1x512_1),
    unary main_v1 main_v4 (broadcastInDim S1x512 ![1] bcast_S512_S1x512_1),
    binary main_v3 main_v4 main_v5
      (fun a b => concatenate S2x512 0 [⟨S1x512, a⟩, ⟨S1x512, b⟩] concatenates_S1x512_S1x512_S2x512_d0) ]

theorem main_steps (c : Dev nD) : main (F := F) c = seq steps := by
  simp only [main, fn_argmax.body, seq, bind_assoc, pure_bind]
  rfl

/-- One row above another. -/
def stacked (a b : S1x512.Idx → F .f32) : S2x512.Idx → F .f32 :=
  concatenate S2x512 0 [⟨S1x512, a⟩, ⟨S1x512, b⟩] concatenates_S1x512_S1x512_S2x512_d0

/-- The columns' largest elements. -/
def largest (x : S2048x512.Idx → F .f32) : S512.Idx → F .f32 :=
  Host.reduce FloatOps.maximumf x (constant S_ .f32 0xFF800000#32) reducesTo_S2048x512_S512_d0 h_S_

/-- The rows they are first at. -/
def rows (x : S2048x512.Idx → F .f32) : S512.Idx → BitVec 32 :=
  fun j => (Host.argReduce reducer_argmax_f32_i32 x (iotaInDim S2048x512 32 0) (constant S_ .f32 0xFF800000#32)
    (constantI S_ 32 0#32) reducesTo_S2048x512_S512_d0 h_S_ j).2

/-- The reference's result for the argument `x`: the columns' largest elements over their rows' numbers. -/
def result (x : S2048x512.Idx → F .f32) : S2x512.Idx → F .f32 :=
  stacked (broadcastInDim S1x512 ![1] bcast_S512_S1x512_1 (largest x))
    (broadcastInDim S1x512 ![1] bcast_S512_S1x512_1 (sitofp .f32 (rows x)))

theorem after_out (V : Valuation τ sig (Elt F)) :
    after steps V (main_v5 : DevRef τ sig) = result (V (main_arg0 : DevRef τ sig)) := by
  unfold steps
  after_results_simp
  show stacked _ _ = stacked _ _
  refine congrArg₂ stacked ?_ ?_
  · after_results_simp; rfl
  · after_results_simp; rfl

theorem after_arg (V : Valuation τ sig (Elt F)) :
    after steps V (main_arg0 : DevRef τ sig) = V (main_arg0 : DevRef τ sig) := by
  unfold steps
  simp only [after_cons, after_nil]
  rfl

theorem no_scoped_refs : (Finset.univ.filter fun b : Ref sig .tc => b.isScoped) = ∅ := by decide
theorem no_scoped_sems : (Finset.univ.filter fun sm : SemLoc sig => sm.isScoped .tc) = ∅ := by decide

theorem steps_sub : (steps : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., binary_bufs_sub ..⟩

/-- From any memory the reference ends, with its result as stated, its argument unchanged and every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5) = result (m ((c.tc : Thread nD τ).loc main_arg0))
        ∧ r.2.mem ((c.tc : Thread nD τ).loc main_arg0) = m ((c.tc : Thread nD τ).loc main_arg0))
      ∧ r.2.sem = fun _ => 0 :=
  (θ_run defs _ _).mono
    (fun r h => ⟨fun c => ⟨(h c main_v5).trans (after_out _), (h c main_arg0).trans (after_arg _)⟩,
      sem_eq_zero_of_no_sems (by decide) r.2⟩)
    (run_seq no_scoped_refs no_scoped_sems defs main (fun _ => steps) main_steps (fun _ => steps_sub) m ρ)

end Cert.ArgMaxRef

end
-- ==== Proof.RefValue.lean ====
/-
# What the reference computes

Over the extended reals the reference's result names, at every column, the first of the largest among all rows: its
maximum is the fold of the maximum down the column, and its row number comes from a fold over (element, row) pairs
which changes the pair it has only for a larger element.
-/
module

public import proofs.«01_k».proof.Proof.Reference
public import proofs.«01_k».proof.Proof.First
public import Idealize.ShloMosaic.Lib.Pipeline.Value
public import Idealize.ShloMosaic.Lib.ValueLayout
public import Idealize.ShloMosaic.Lib.Pointwise.Index

@[expose] public section

set_option maxRecDepth 16384

noncomputable section

namespace Cert.ArgMaxRef

open Cert.ReferenceIdeal Cert.ReferenceIdeal.Gen
open Idealize.ShloMosaic Idealize.SL.Sem
open Cert.ArgMax (First Holds num place place_toInt exists_first fold_max_eq fold_pairs)

variable (X : FVec Ideal S2048x512 .f32)

/-- Column `q` of `X`. -/
abbrev column (q : Fin 512) : Fin 2048 → EReal := fun k => X (ix2 k q)

/-! ## The stacked rows -/

theorem row_cast {α : Type} (z : S512.Idx → α) (q : Fin 512) :
    broadcastInDim S1x512 ![1] bcast_S512_S1x512_1 z (ix2 (0 : Fin 1) q) = z (ix1 q) :=
  broadcastInDim_apply ![1] bcast_S512_S1x512_1 z (ix2 (0 : Fin 1) q) (ix1 q) (fun a => by fin_cases a; rfl)

theorem stacked_top {F : FTy → Type} (a b : S1x512.Idx → F .f32) (q : Fin 512) :
    stacked a b (ix2 (0 : Fin 2) q) = a (ix2 (0 : Fin 1) q) :=
  concatenate_apply_piece (t := S2x512) 0 [⟨S1x512, a⟩, ⟨S1x512, b⟩] concatenates_S1x512_S1x512_S2x512_d0 (ix2 (0 : Fin 2) q) 0
    (by simp) S1x512 a rfl rfl 0 rfl (ix2 (0 : Fin 1) q) (fun b hb => by fin_cases b <;> first | rfl | exact absurd rfl hb) rfl
theorem stacked_bottom {F : FTy → Type} (a b : S1x512.Idx → F .f32) (q : Fin 512) :
    stacked a b (ix2 (1 : Fin 2) q) = b (ix2 (0 : Fin 1) q) :=
  concatenate_apply_piece (t := S2x512) 0 [⟨S1x512, a⟩, ⟨S1x512, b⟩] concatenates_S1x512_S1x512_S2x512_d0 (ix2 (1 : Fin 2) q) 1
    (by simp) S1x512 b rfl rfl 1 rfl (ix2 (0 : Fin 1) q) (fun b hb => by fin_cases b <;> first | rfl | exact absurd rfl hb) rfl

/-! ## The largest -/

theorem least_word : (FloatOps.ofBits .f32 0xFF800000#32 : Ideal .f32) = (⊥ : EReal) := by
  show Ideal.ofBits .f32 0xFF800000#32 = ⊥
  simp [Ideal.ofBits, Ideal.ieee]

/-- Removing the rows leaves the columns. -/
theorem rows_reduce : S2048x512.Reduces [0] S512 := by decide

theorem lift_row (q : Fin 512) (k : Fin 2048) : rows_reduce.lift (ix1 q) k = ix2 k q :=
  funext fun a => Fin.ext ((Shape.Reduces.lift_val rows_reduce (ix1 q) k a).trans (by fin_cases a <;> rfl))

variable {X}

theorem largest_eq {q : Fin 512} {i : Fin 2048} (hi : First (fun _ => True) (column X q) i) :
    largest X (ix1 q) = column X q i := by
  unfold largest
  refine (Host.reduce_eq_fold_single _ _ _ _ rows_reduce _ _).trans ?_
  have e : X ∘ rows_reduce.lift (ix1 q) = column X q := funext fun k => congrArg X (lift_row q k)
  have hb : (constant (F := Ideal) S_ .f32 0xFF800000#32) (Shape.Idx.first h_S_) = (⊥ : EReal) := least_word
  rw [hb]
  exact (congrArg (fun f => (Finset.univ : Finset (Fin 2048)).fold max (⊥ : EReal) f) e).trans (fold_max_eq hi bot_le)

/-! ## The row it is first at -/

/-- From an earlier row's pair, the reference takes the later row's only for a larger element; -/
theorem later (x y : EReal) (i k : Fin 2048) (h : i < k) :
    reducer_argmax_f32_i32 (F := Ideal) (x, place i) (y, place k) = if x < y then (y, place k) else (x, place i) := by
  have hs : (place i).slt (place k) = true := by
    rw [BitVec.slt_iff_toInt_lt, place_toInt (by decide), place_toInt (by decide)]
    have : i.val < k.val := h
    omega
  unfold reducer_argmax_f32_i32
  rcases lt_trichotomy x y with hxy | hxy | hxy
  · simp [Ideal.cmpf_def, Ideal.cmp, IntOp.ori, IntOp.andi, IntOp.cmpi, Scalar.select, hs, hxy, hxy.ne, not_lt.mpr hxy.le]
  · simp [Ideal.cmpf_def, Ideal.cmp, IntOp.ori, IntOp.andi, IntOp.cmpi, Scalar.select, hs, hxy]
  · simp [Ideal.cmpf_def, Ideal.cmp, IntOp.ori, IntOp.andi, IntOp.cmpi, Scalar.select, hs, hxy, hxy.ne', not_lt.mpr hxy.le]

/-- from the pair it starts with, it takes the first row's. -/
theorem start (y : EReal) :
    reducer_argmax_f32_i32 (F := Ideal) ((⊥ : EReal), 0#32) (y, place (0 : Fin 2048)) = (y, place (0 : Fin 2048)) := by
  unfold reducer_argmax_f32_i32
  simp [Ideal.cmpf_def, Ideal.cmp, IntOp.ori, IntOp.andi, IntOp.cmpi, Scalar.select]
  exact fun _ => rfl

/-- The reference's fold, down the rows of a column. -/
theorem rows_fold (q : Fin 512) : rows X (ix1 q)
    = ((List.finRange 2048).foldl (fun acc k => reducer_argmax_f32_i32 (F := Ideal) acc (column X q k, place k)) ((⊥ : EReal), 0#32)).2 := by
  unfold rows
  rw [Ideal.argReduce_eq_reduce2]
  have h := reduceFold_rows rows_reduce (reducer_argmax_f32_i32 (F := Ideal)) ((⊥ : EReal), 0#32)
    (fun i => (X i, iotaInDim S2048x512 32 0 i)) (ix1 q)
  have hb : (constant (F := Ideal) S_ .f32 0xFF800000#32) (Shape.Idx.first h_S_) = (⊥ : EReal) := least_word
  refine congrArg Prod.snd (Eq.trans ?_ (h.trans ?_))
  · unfold Host.reduce2
    rw [hb]
    rfl
  · refine congrArg (fun g => List.foldl g ((⊥ : EReal), 0#32) (List.finRange 2048)) (funext fun acc => funext fun k => ?_)
    have e : (Shape.pair k (rows_reduce.col (ix1 q)) : S2048x512.Idx) = ix2 k q :=
      funext fun a => Fin.ext (by fin_cases a <;> rfl)
    show reducer_argmax_f32_i32 (F := Ideal) acc (X (Shape.pair k (rows_reduce.col (ix1 q))), _) = _
    rw [e]
    rfl

theorem rows_eq {q : Fin 512} {i : Fin 2048} (hi : First (fun _ => True) (column X q) i) : rows X (ix1 q) = place i := by
  have h0 : First (fun k : Fin 2048 => k = 0) (column X q) 0 :=
    ⟨rfl, fun k e => by subst e; exact ⟨le_rfl, fun h => absurd h (lt_irrefl _)⟩⟩
  obtain ⟨i', he, hi'⟩ := fold_pairs (x := column X q) (reducer_argmax_f32_i32 (F := Ideal))
    (fun i k h => later _ _ i k h) ((List.finRange 2047).map Fin.succ) _ _ h0
    (fun k hk p hp => by
      obtain ⟨l, -, rfl⟩ := List.mem_map.mp hk
      subst hp
      exact Fin.succ_pos l)
    (by
      rw [List.pairwise_map]
      exact (List.pairwise_lt_finRange _).imp fun h => Fin.succ_lt_succ_iff.mpr h)
  have hall : First (fun _ => True) (column X q) i' := hi'.congr fun k => iff_true_intro (by
    rcases Fin.eq_zero_or_eq_succ k with h | ⟨l, rfl⟩
    · exact Or.inl h
    · exact Or.inr (List.mem_map_of_mem (List.mem_finRange l)))
  rw [rows_fold, List.finRange_succ, List.foldl_cons, start, he, hall.unique hi]

/-- The reference's result: at every column, the first of the largest among all rows. -/
theorem result_holds (X : FVec Ideal S2048x512 .f32) (q : Fin 512) :
    Holds (fun _ => True) (column X q) (result X (ix2 (0 : Fin 2) q)) (result X (ix2 (1 : Fin 2) q)) := by
  obtain ⟨i, hi⟩ := exists_first (fun _ : Fin 2048 => True) (column X q) ⟨0, trivial⟩
  refine ⟨i, hi, ?_, ?_⟩
  · unfold result
    rw [stacked_top, row_cast]
    exact largest_eq hi
  · unfold result
    rw [stacked_bottom, row_cast]
    show (((rows X (ix1 q)).toInt : ℝ) : EReal) = _
    rw [rows_eq hi, place_toInt (by decide)]
    exact congrArg (fun r : ℝ => (r : EReal)) (Int.cast_natCast (R := ℝ) _)

end Cert.ArgMaxRef

end
-- ==== Proof.Equation.lean ====
/-
# The two results are equal

At every column both programs' results name the first of the largest among all rows, and there is only one.
-/
module

public import proofs.«01_k».proof.Proof.Combine
public import proofs.«01_k».proof.Proof.RefValue
public import Idealize.ShloMosaic.Lib.Layout

@[expose] public section

set_option maxRecDepth 16384

noncomputable section

namespace Cert.ArgMax

open Cert.KernelIdeal Cert.KernelIdeal.Gen
open Idealize.ShloMosaic Idealize.SL.Sem
open Idealize.ShloMosaic.TcCoe

variable (m : (ℓ : Loc nD τ sig) → Buf (Elt Ideal) ℓ) (ρ : Dev nD → PrngReg)
variable (X : (⟨2, ![2048, 512]⟩ : Shape).Idx → Elt Ideal .f32)

/-- The devices' arguments, given as blocks of rows of `X`, element by element. -/
theorem cut_of_block (h : ∀ c : Dev nD, m ((c : Thread nD τ).loc main_arg0) = Layout.block ⟨2, ![512, 512]⟩ ⟨2, ![2048, 512]⟩ 0 4 c X) :
    Cut m X := fun c k q => by
  rw [h c]
  refine congrArg X (funext fun a => Fin.ext ?_)
  fin_cases a
  · show c.val * 512 + k.val = 512 * c.val + k.val
    omega
  · rfl

theorem out_eq (h : Cut m X) (c : Dev nD) : (outAt m ρ c : S2x512.Idx → Elt Ideal .f32) = ArgMaxRef.result (F := Ideal) X := by
  have rowwise : ∀ (r : Fin 2) (q : Fin 512),
      (outAt m ρ c : S2x512.Idx → Elt Ideal .f32) (ix2 r q) = ArgMaxRef.result (F := Ideal) X (ix2 r q) := fun r q => by
    have hq := (out_holds ρ h c q).unique (ArgMaxRef.result_holds X q)
    rcases (by omega : r = 0 ∨ r = 1) with rfl | rfl
    · exact hq.1
    · exact hq.2
  funext i
  have e : i = ix2 (i 0 : Fin 2) (i 1 : Fin 512) := funext fun a => by fin_cases a <;> rfl
  rw [e]
  exact rowwise (i 0) (i 1)

end Cert.ArgMax

end
-- ==== Proof.lean ====
/-
# One column-wise maximum with its row, over four devices: the certificate

Each device takes its own 512 × 512 block of `x`, finds every column's largest element and the first row holding it,
sends that to the three others, and combines the four. The modules:

* `Cells`, `Schedule`: the semaphores, who pays them, and with what;
* `Ops`, `Access`, `Body`: the operations of the kernel, and the body run with them;
* `Launch`, `Arrays`: the four devices set up, the whole program run, and what its arrays then hold;
* `First`: the mathematics, the first of the largest elements of a column;
* `Partial`, `Combine`: over the extended reals, what a device sends and what it combines, so the kernel's result;
* `Reference`, `RefValue`: the reference run, and its result over the extended reals;
* `Equation`: the two results are equal;
* this file: the claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-- The kernel and its idealization have one text: their bodies are equal, -/
theorem body_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
/-- and so their tables are, -/
theorem table_eq : Cert.Kernel.defs (F := Bits) = Cert.KernelIdeal.defs (F := Bits) :=
  congrArg (Pipeline.defs (Cert.Kernel.pcfgs (F := Bits))) body_eq
/-- and the runs. -/
theorem run_eq : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) :=
  congrArg (fun D => θ_run D (onTc (τ := Cert.Kernel.τ) (Cert.Kernel.main (F := Bits)))) table_eq

/-- The kernel runs, and leaves its argument as it was and every semaphore at zero: the run is proved for floats of any kind. -/
theorem frame_kernel : Cert.quiescent_Kernel := fun m ρ _ => by
  rw [run_eq]
  exact (θ_run Cert.KernelIdeal.defs _ _).mono (fun _ h => ⟨fun c => (h.1 c 0).trans (Cert.ArgMax.finalA_x m ρ c), h.2⟩)
    (Cert.ArgMax.run_main (F := Bits) m ρ)

theorem frame_kernelIdeal : Cert.quiescent_KernelIdeal := fun m ρ _ =>
  (θ_run Cert.KernelIdeal.defs _ _).mono (fun _ h => ⟨fun c => (h.1 c 0).trans (Cert.ArgMax.finalA_x m ρ c), h.2⟩)
    (Cert.ArgMax.run_main (F := Ideal) m ρ)

theorem frame_reference : Cert.quiescent_ReferenceIdeal := fun m ρ _ =>
  (θ_run Cert.ReferenceIdeal.defs _ _).mono (fun _ h => ⟨fun c => (h.1 c).2, h.2⟩) (Cert.ArgMaxRef.run_main (F := Ideal) m ρ)

/-- Every device's result is the reference's. -/
theorem values : Cert.algebraic_KernelIdeal_ReferenceIdeal := fun m ρ m' ρ' _ hblock =>
  ⟨Cert.ArgMaxRef.result (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
      ⟨((h.1 c 1).trans (Cert.ArgMax.finalA_out m ρ c)).trans
        (Cert.ArgMax.out_eq m ρ _ (Cert.ArgMax.cut_of_block m _ hblock) c),
        (h.1 c 0).trans (Cert.ArgMax.finalA_x m ρ c)⟩) (Cert.ArgMax.run_main (F := Ideal) m ρ),
    (θ_run Cert.ReferenceIdeal.defs _ _).mono (fun _ h => h.1 0) (Cert.ArgMaxRef.run_main (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, values⟩

end Cert.Proof

end
